-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10000x256 : Shape := ⟨2, ![10000, 256]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S2x160000 : Shape := ⟨2, ![2, 160000]⟩
abbrev S4096x2 : Shape := ⟨2, ![4096, 2]⟩
abbrev S4096x10 : Shape := ⟨2, ![4096, 10]⟩
abbrev S4096 : Shape := ⟨1, ![4096]⟩
abbrev S_ : Shape := ⟨0, ![]⟩

class Facts : Prop where
  bcast_S_S4096x2 : S_.BroadcastsInDim S4096x2 (![] : Fin 0 → Fin S4096x2.rank)
  bcast_S_S4096x10 : S_.BroadcastsInDim S4096x10 (![] : Fin 0 → Fin S4096x10.rank)
  bcast_S_S4096 : S_.BroadcastsInDim S4096 (![] : Fin 0 → Fin S4096.rank)

variable [Facts]

def fn {F : FTy → Type} [FloatOps F] (main_arg0 : FVec F S10000x256 .f32) (main_arg1 : FVec F S256x256 .f32) (main_arg2 : FVec F S256 .f32) (main_arg3 : FVec F S256x256 .f32) (main_arg4 : FVec F S256 .f32) (main_arg5 : FVec F S768x256 .f32) (main_arg6 : FVec F S256 .f32) (main_arg7 : FVec F S256x1 .f32) (main_arg8 : FVec F S1 .f32) (main_arg9 : IVec S2x160000 32) (main_arg10 : IVec S4096x2 32) (main_arg11 : IVec S4096x10 32) (main_arg12 : IVec S4096 32) : IVec S4096x2 1 × IVec S4096x10 1 × IVec S4096 1 :=
  let main_c : IVec S_ 32 := constantI S_ 32 0#32
  let main_v0 : IVec S4096x2 32 := broadcastInDim S4096x2 ![] bcast_S_S4096x2 main_c
  let main_v1 : IVec S4096x2 1 := cmpi .sge main_arg10 main_v0
  let main_c_0 : IVec S_ 32 := constantI S_ 32 10000#32
  let main_v2 : IVec S4096x2 32 := broadcastInDim S4096x2 ![] bcast_S_S4096x2 main_c_0
  let main_v3 : IVec S4096x2 1 := cmpi .slt main_arg10 main_v2
  let main_v4 : IVec S4096x2 1 := andi main_v1 main_v3
  let main_c_1 : IVec S_ 32 := constantI S_ 32 0#32
  let main_v5 : IVec S4096x10 32 := broadcastInDim S4096x10 ![] bcast_S_S4096x10 main_c_1
  let main_v6 : IVec S4096x10 1 := cmpi .sge main_arg11 main_v5
  let main_c_2 : IVec S_ 32 := constantI S_ 32 10000#32
  let main_v7 : IVec S4096x10 32 := broadcastInDim S4096x10 ![] bcast_S_S4096x10 main_c_2
  let main_v8 : IVec S4096x10 1 := cmpi .slt main_arg11 main_v7
  let main_v9 : IVec S4096x10 1 := andi main_v6 main_v8
  let main_c_3 : IVec S_ 32 := constantI S_ 32 1#32
  let main_v10 : IVec S4096 32 := broadcastInDim S4096 ![] bcast_S_S4096 main_c_3
  let main_v11 : IVec S4096 1 := cmpi .sge main_arg12 main_v10
  let main_c_4 : IVec S_ 32 := constantI S_ 32 10#32
  let main_v12 : IVec S4096 32 := broadcastInDim S4096 ![] bcast_S_S4096 main_c_4
  let main_v13 : IVec S4096 1 := cmpi .sle main_arg12 main_v12
  let main_v14 : IVec S4096 1 := andi main_v11 main_v13
  (main_v4, main_v9, main_v14)
-- ==== Kernel.lean ====
abbrev S10000x256 : Shape := ⟨2, ![10000, 256]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S2x160000 : Shape := ⟨2, ![2, 160000]⟩
abbrev S4096x2 : Shape := ⟨2, ![4096, 2]⟩
abbrev S4096x10 : Shape := ⟨2, ![4096, 10]⟩
abbrev S4096 : Shape := ⟨1, ![4096]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S10240x256 : Shape := ⟨2, ![10240, 256]⟩
abbrev S10240 : Shape := ⟨1, ![10240]⟩
abbrev S10240x128 : Shape := ⟨2, ![10240, 128]⟩
abbrev S10240x1 : Shape := ⟨2, ![10240, 1]⟩
abbrev S1x256 : Shape := ⟨2, ![1, 256]⟩
abbrev S1024x128 : Shape := ⟨2, ![1024, 128]⟩
abbrev S1024x1 : Shape := ⟨2, ![1024, 1]⟩
abbrev S1024x256 : Shape := ⟨2, ![1024, 256]⟩
abbrev S128x256 : Shape := ⟨2, ![128, 256]⟩
abbrev S10 : Shape := ⟨1, ![10]⟩
abbrev S1x10 : Shape := ⟨2, ![1, 10]⟩
abbrev S4096x1 : Shape := ⟨2, ![4096, 1]⟩
abbrev S4096x10x1 : Shape := ⟨3, ![4096, 10, 1]⟩
abbrev S4096x10x256 : Shape := ⟨3, ![4096, 10, 256]⟩
abbrev S4096x256 : Shape := ⟨2, ![4096, 256]⟩
abbrev S4096x128 : Shape := ⟨2, ![4096, 128]⟩
abbrev S1x1 : Shape := ⟨2, ![1, 1]⟩
abbrev S1024 : Shape := ⟨1, ![1024]⟩

abbrev nBuf : Space → Nat
  | .hbm => 97
  | .vmem => 32
  | .smem => 0
  | _ => 0

abbrev bufTy : (tb : Table) → Fin (tcTables nBuf tb) → BufTy
  | .hbm, ⟨0, _⟩ => ⟨S10000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S768x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S2x160000, .i32⟩
  | .hbm, ⟨10, _⟩ => ⟨S4096x2, .i32⟩
  | .hbm, ⟨11, _⟩ => ⟨S4096x10, .i32⟩
  | .hbm, ⟨12, _⟩ => ⟨S4096, .i32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x256, .f32⟩
  | .hbm, ⟨26, _⟩ => ⟨S_, .f32⟩
  | .hbm, ⟨27, _⟩ => ⟨S10240x256, .f32⟩
  | .hbm, ⟨28, _⟩ => ⟨S160000x1, .i32⟩
  | .hbm, ⟨29, _⟩ => ⟨S10240x256, .f32⟩
  | .hbm, ⟨30, _⟩ => ⟨S_, .f32⟩
  | .hbm, ⟨31, _⟩ => ⟨S160000, .f32⟩
  | .hbm, ⟨32, _⟩ => ⟨S_, .f32⟩
  | .hbm, ⟨33, _⟩ => ⟨S10240, .f32⟩
  | .hbm, ⟨34, _⟩ => ⟨S160000x1, .i32⟩
  | .hbm, ⟨35, _⟩ => ⟨S10240, .f32⟩
  | .hbm, ⟨36, _⟩ => ⟨S10240x128, .f32⟩
  | .hbm, ⟨37, _⟩ => ⟨S10240x128, .f32⟩
  | .hbm, ⟨38, _⟩ => ⟨S10240x1, .f32⟩
  | .hbm, ⟨39, _⟩ => ⟨S1x256, .f32⟩
  | .hbm, ⟨40, _⟩ => ⟨S10240x256, .f32⟩
  | .hbm, ⟨41, _⟩ => ⟨S10, .i32⟩
  | .hbm, ⟨42, _⟩ => ⟨S1x10, .i32⟩
  | .hbm, ⟨43, _⟩ => ⟨S4096x1, .i32⟩
  | .hbm, ⟨44, _⟩ => ⟨S4096x10, .i32⟩
  | .hbm, ⟨45, _⟩ => ⟨S4096x10, .i32⟩
  | .hbm, ⟨46, _⟩ => ⟨S4096x10, .i1⟩
  | .hbm, ⟨47, _⟩ => ⟨S_, .i32⟩
  | .hbm, ⟨48, _⟩ => ⟨S_, .i32⟩
  | .hbm, ⟨49, _⟩ => ⟨S4096x10, .i32⟩
  | .hbm, ⟨50, _⟩ => ⟨S4096x10, .i32⟩
  | .hbm, ⟨51, _⟩ => ⟨S_, .i32⟩
  | .hbm, ⟨52, _⟩ => ⟨S4096x10, .i32⟩
  | .hbm, ⟨53, _⟩ => ⟨S4096x10, .i1⟩
  | .hbm, ⟨54, _⟩ => ⟨S_, .i32⟩
  | .hbm, ⟨55, _⟩ => ⟨S4096x10, .i32⟩
  | .hbm, ⟨56, _⟩ => ⟨S4096x10, .i32⟩
  | .hbm, ⟨57, _⟩ => ⟨S4096x10, .i32⟩
  | .hbm, ⟨58, _⟩ => ⟨S4096x10x1, .i32⟩
  | .hbm, ⟨59, _⟩ => ⟨S4096x10x256, .f32⟩
  | .hbm, ⟨60, _⟩ => ⟨S_, .f32⟩
  | .hbm, ⟨61, _⟩ => ⟨S4096x256, .f32⟩
  | .hbm, ⟨62, _⟩ => ⟨S4096x1, .i32⟩
  | .hbm, ⟨63, _⟩ => ⟨S4096, .i32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096x256, .f32⟩
  | .hbm, ⟨73, _⟩ => ⟨S4096x1, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S4096x1, .i32⟩
  | .hbm, ⟨83, _⟩ => ⟨S4096x256, .f32⟩
  | .hbm, ⟨84, _⟩ => ⟨S4096, .f32⟩
  | .hbm, ⟨85, _⟩ => ⟨S4096x1, .f32⟩
  | .hbm, ⟨86, _⟩ => ⟨S4096x128, .f32⟩
  | .hbm, ⟨87, _⟩ => ⟨S4096x128, .f32⟩
  | .hbm, ⟨88, _⟩ => ⟨S4096x128, .f32⟩
  | .hbm, ⟨89, _⟩ => ⟨S4096x128, .f32⟩
  | .hbm, ⟨90, _⟩ => ⟨S4096x128, .f32⟩
  | .hbm, ⟨91, _⟩ => ⟨S4096x128, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S1x1, .f32⟩
  | .hbm, ⟨96, _⟩ => ⟨S4096x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S256x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x1, .f32⟩
  | .local _ .vmem, ⟨23, _⟩ => ⟨S1024x1, .f32⟩
  | .local _ .vmem, ⟨24, _⟩ => ⟨S256x256, .f32⟩
  | .local _ .vmem, ⟨25, _⟩ => ⟨S1x256, .f32⟩
  | .local _ .vmem, ⟨26, _⟩ => ⟨S768x256, .f32⟩
  | .local _ .vmem, ⟨27, _⟩ => ⟨S1x256, .f32⟩
  | .local _ .vmem, ⟨28, _⟩ => ⟨S1x256, .f32⟩
  | .local _ .vmem, ⟨29, _⟩ => ⟨S1x1, .f32⟩
  | .local _ .vmem, ⟨30, _⟩ => ⟨S1024x1, .f32⟩
  | .local _ .vmem, ⟨31, _⟩ => ⟨S1024x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_call0_v0 : Ref sig .tc := ⟨.hbm, 48, rfl⟩
abbrev main_call0_v1 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg13_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem13_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S768x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1024x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S10000x256 : Shape := ⟨2, ![10000, 256]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S2x160000 : Shape := ⟨2, ![2, 160000]⟩
abbrev S4096x2 : Shape := ⟨2, ![4096, 2]⟩
abbrev S4096x10 : Shape := ⟨2, ![4096, 10]⟩
abbrev S4096 : Shape := ⟨1, ![4096]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S10000 : Shape := ⟨1, ![10000]⟩
abbrev S10000x1 : Shape := ⟨2, ![10000, 1]⟩
abbrev S1x256 : Shape := ⟨2, ![1, 256]⟩
abbrev S4096x1 : Shape := ⟨2, ![4096, 1]⟩
abbrev S4096x256 : Shape := ⟨2, ![4096, 256]⟩
abbrev S10 : Shape := ⟨1, ![10]⟩
abbrev S1x10 : Shape := ⟨2, ![1, 10]⟩
abbrev S4096x10x1 : Shape := ⟨3, ![4096, 10, 1]⟩
abbrev S1x1x1 : Shape := ⟨3, ![1, 1, 1]⟩
abbrev S8192x10 : Shape := ⟨2, ![8192, 10]⟩
abbrev S8192 : Shape := ⟨1, ![8192]⟩
abbrev S8192x10x1 : Shape := ⟨3, ![8192, 10, 1]⟩
abbrev S8192x10x256 : Shape := ⟨3, ![8192, 10, 256]⟩
abbrev S8192x1 : Shape := ⟨2, ![8192, 1]⟩
abbrev S8192x256 : Shape := ⟨2, ![8192, 256]⟩
abbrev S4096x768 : Shape := ⟨2, ![4096, 768]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S10000x256, .f32⟩
  | 1 => ⟨S256x256, .f32⟩
  | 2 => ⟨S256, .f32⟩
  | 3 => ⟨S256x256, .f32⟩
  | 4 => ⟨S256, .f32⟩
  | 5 => ⟨S768x256, .f32⟩
  | 6 => ⟨S256, .f32⟩
  | 7 => ⟨S256x1, .f32⟩
  | 8 => ⟨S1, .f32⟩
  | 9 => ⟨S2x160000, .i32⟩
  | 10 => ⟨S4096x2, .i32⟩
  | 11 => ⟨S4096x10, .i32⟩
  | 12 => ⟨S4096, .i32⟩
  | 13 => ⟨S1x160000, .i32⟩
  | 14 => ⟨S160000, .i32⟩
  | 15 => ⟨S1x160000, .i32⟩
  | 16 => ⟨S160000, .i32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000x256, .f32⟩
  | 26 => ⟨S_, .f32⟩
  | 27 => ⟨S10000x256, .f32⟩
  | 28 => ⟨S160000x1, .i32⟩
  | 29 => ⟨S10000x256, .f32⟩
  | 30 => ⟨S_, .f32⟩
  | 31 => ⟨S160000, .f32⟩
  | 32 => ⟨S_, .f32⟩
  | 33 => ⟨S10000, .f32⟩
  | 34 => ⟨S160000x1, .i32⟩
  | 35 => ⟨S10000, .f32⟩
  | 36 => ⟨S_, .f32⟩
  | 37 => ⟨S10000, .f32⟩
  | 38 => ⟨S10000, .f32⟩
  | 39 => ⟨S10000x1, .f32⟩
  | 40 => ⟨S10000x256, .f32⟩
  | 41 => ⟨S10000x256, .f32⟩
  | 42 => ⟨S10000x256, .f32⟩
  | 43 => ⟨S1x256, .f32⟩
  | 44 => ⟨S10000x256, .f32⟩
  | 45 => ⟨S10000x256, .f32⟩
  | 46 => ⟨S_, .f32⟩
  | 47 => ⟨S10000x256, .f32⟩
  | 48 => ⟨S10000x256, .f32⟩
  | 49 => ⟨S4096x1, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S4096x256, .f32⟩
  | 60 => ⟨S4096x1, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x256, .f32⟩
  | 71 => ⟨S10, .i32⟩
  | 72 => ⟨S4096x1, .i32⟩
  | 73 => ⟨S_, .i32⟩
  | 74 => ⟨S4096x1, .i32⟩
  | 75 => ⟨S4096x1, .i32⟩
  | 76 => ⟨S1x10, .i32⟩
  | 77 => ⟨S4096x10, .i32⟩
  | 78 => ⟨S4096x10, .i32⟩
  | 79 => ⟨S4096x10, .i32⟩
  | 80 => ⟨S_, .i32⟩
  | 81 => ⟨S_, .i32⟩
  | 82 => ⟨S_, .i32⟩
  | 83 => ⟨S4096x10, .i32⟩
  | 84 => ⟨S4096x10, .i32⟩
  | 85 => ⟨S_, .i32⟩
  | 86 => ⟨S4096x10, .i32⟩
  | 87 => ⟨S4096x10, .i32⟩
  | 88 => ⟨S_, .i32⟩
  | 89 => ⟨S4096x10, .i32⟩
  | 90 => ⟨S4096x10, .i1⟩
  | 91 => ⟨S_, .i32⟩
  | 92 => ⟨S4096x10, .i32⟩
  | 93 => ⟨S4096x10, .i32⟩
  | 94 => ⟨S4096x10, .i32⟩
  | 95 => ⟨S4096x10x1, .i32⟩
  | 96 => ⟨S1, .i32⟩
  | 97 => ⟨S_, .i32⟩
  | 98 => ⟨S4096x10x1, .i32⟩
  | 99 => ⟨S4096x10x1, .i1⟩
  | 100 => ⟨S1x1x1, .i32⟩
  | 101 => ⟨S4096x10x1, .i32⟩
  | 102 => ⟨S4096x10x1, .i1⟩
  | 103 => ⟨S4096x10x1, .i1⟩
  | 104 => ⟨S_, .i1⟩
  | 105 => ⟨S4096x10, .i1⟩
  | 106 => ⟨S4096x10, .i32⟩
  | 107 => ⟨S_, .i32⟩
  | 108 => ⟨S4096x10, .i32⟩
  | 109 => ⟨S4096x10, .i32⟩
  | 110 => ⟨S8192x10, .i32⟩
  | 111 => ⟨S8192, .i32⟩
  | 112 => ⟨S_, .i32⟩
  | 113 => ⟨S8192x10, .i32⟩
  | 114 => ⟨S8192x10, .i1⟩
  | 115 => ⟨S_, .i32⟩
  | 116 => ⟨S8192x10, .i32⟩
  | 117 => ⟨S8192x10, .i32⟩
  | 118 => ⟨S8192x10, .i32⟩
  | 119 => ⟨S8192x10x1, .i32⟩
  | 120 => ⟨S8192x10x256, .f32⟩
  | 121 => ⟨S1x10, .i32⟩
  | 122 => ⟨S8192x1, .i32⟩
  | 123 => ⟨S8192x10, .i32⟩
  | 124 => ⟨S8192x10, .i32⟩
  | 125 => ⟨S8192x10, .i1⟩
  | 126 => ⟨S8192x10, .i1⟩
  | 127 => ⟨S8192x10, .f32⟩
  | _ => ⟨S10000x256, .f32⟩

abbrev hbmTy0_1 (i : Nat) : BufTy := match i % 128 with
  | 0 => ⟨S8192x10x1, .f32⟩
  | 1 => ⟨S8192x10x256, .f32⟩
  | 2 => ⟨S8192x10x256, .f32⟩
  | 3 => ⟨S_, .f32⟩
  | 4 => ⟨S8192x256, .f32⟩
  | 5 => ⟨S8192x1, .i32⟩
  | 6 => ⟨S8192x1, .f32⟩
  | 7 => ⟨S8192x256, .f32⟩
  | 8 => ⟨S8192x256, .f32⟩
  | 9 => ⟨S8192x256, .f32⟩
  | 10 => ⟨S1x256, .f32⟩
  | 11 => ⟨S8192x256, .f32⟩
  | 12 => ⟨S8192x256, .f32⟩
  | 13 => ⟨S_, .f32⟩
  | 14 => ⟨S8192x256, .f32⟩
  | 15 => ⟨S8192x256, .f32⟩
  | 16 => ⟨S4096x256, .f32⟩
  | 17 => ⟨S4096x256, .f32⟩
  | 18 => ⟨S4096x256, .f32⟩
  | 19 => ⟨S4096x768, .f32⟩
  | 20 => ⟨S4096x256, .f32⟩
  | 21 => ⟨S1x256, .f32⟩
  | 22 => ⟨S4096x256, .f32⟩
  | 23 => ⟨S4096x256, .f32⟩
  | 24 => ⟨S_, .f32⟩
  | 25 => ⟨S4096x256, .f32⟩
  | 26 => ⟨S4096x256, .f32⟩
  | 27 => ⟨S4096x1, .f32⟩
  | 28 => ⟨S1x1, .f32⟩
  | 29 => ⟨S4096x1, .f32⟩
  | 30 => ⟨S4096x1, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_6 : Ref sig .tc := ⟨.hbm, 62, rfl⟩
abbrev main_v39 : Ref sig .tc := ⟨.hbm, 63, rfl⟩
abbrev main_v40 : Ref sig .tc := ⟨.hbm, 64, rfl⟩
abbrev main_c_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_c_10 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v54 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_c_4 : Ref sig .tc := ⟨.hbm, 107, rfl⟩
abbrev main_call2_v14 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_c_11 : Ref sig .tc := ⟨.hbm, 112, rfl⟩
abbrev main_v58 : Ref sig .tc := ⟨.hbm, 113, rfl⟩
abbrev main_v59 : Ref sig .tc := ⟨.hbm, 114, rfl⟩
abbrev main_c_12 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_13 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_call3_cst : Ref sig .tc := ⟨.hbm, 141, rfl⟩
abbrev main_call3_v0 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_call4_cst : Ref sig .tc := ⟨.hbm, 152, rfl⟩
abbrev main_call4_v0 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

/-! The idealized kernel's run with its result named: the result array ends as the write-backs of the second region leave
it, and every argument array ends as launched. -/

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the claim's, which takes unfolding plain
-- definitions in a metavariable's type
set_option backward.isDefEq.respectTransparency.types false in
/-- Every weakly fair execution ends with the result array holding what the second region's output window holds after its
    last point, and with the argument arrays as launched. -/
theorem value_run : θ_run defs (onTc (τ := τ) (main (F := F))) ⟨m, fun _ => 0, ρ⟩ (fun r => ∀ c : Dev nD,
      r.2.mem ((c.tc : Thread nD τ).loc main_v68) = (dat1 (V5 m ρ) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => (fun c =>
      ⟨(h c _ (mem_uc main_v68 (by decide))).trans (W6_arr m ρ c 13),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩))

end Cert.Proof.Run

end
-- ==== Proof.Ranges.lean ====
module

public import proofs.«01_k».proof.Pre_in_range
public import Idealize.ShloMosaic.Lib.Pointwise
public import Idealize.ShloMosaic.Lib.WordCmp
public import Idealize.ShloMosaic.Lib.Tactic.WordOmega

@[expose] public section

set_option maxRecDepth 16384

noncomputable section

/-! What the precondition says of the integer arguments: every end of a pair and every path entry is a node number, and every
path length lies between one and ten. -/

namespace Cert.Proof.Ranges

open Idealize.ShloMosaic
open Cert.Pre_in_range

/-- The precondition's own shape facts. -/
instance facts : Cert.Pre_in_range.Facts where
  bcast_S_S4096x2 := by decide
  bcast_S_S4096x10 := by decide
  bcast_S_S4096 := by decide

/-- A word tested nonnegative and below 10000 is a node number. -/
theorem node_word (x : BitVec 32)
    (h : IntOp.andi (IntOp.cmpi .sge x 0#32) (IntOp.cmpi .slt x 10000#32) = 1#1) : ∃ b : Fin 10000, x = BitVec.ofNat 32 b.val := by
  have hx : x.toNat < 10000 := by word_omega
  exact ⟨⟨x.toNat, hx⟩, by simp⟩

/-- A word tested at least one and at most ten is a length. -/
theorem length_word (x : BitVec 32)
    (h : IntOp.andi (IntOp.cmpi .sge x 1#32) (IntOp.cmpi .sle x 10#32) = 1#1) : ∃ k : ℕ, 1 ≤ k ∧ k ≤ 10 ∧ x = BitVec.ofNat 32 k := by
  have hx : 1 ≤ x.toNat ∧ x.toNat ≤ 10 := by word_omega
  exact ⟨x.toNat, hx.1, hx.2, by simp⟩

variable {a0 : FVec Ideal S10000x256 .f32} {a1 : FVec Ideal S256x256 .f32} {a2 : FVec Ideal S256 .f32} {a3 : FVec Ideal S256x256 .f32}
  {a4 : FVec Ideal S256 .f32} {a5 : FVec Ideal S768x256 .f32} {a6 : FVec Ideal S256 .f32} {a7 : FVec Ideal S256x1 .f32}
  {a8 : FVec Ideal S1 .f32} {a9 : IVec S2x160000 32} {a10 : IVec S4096x2 32} {a11 : IVec S4096x10 32} {a12 : IVec S4096 32}

/-- Every end of a pair is a node number. -/
theorem pairs_of (h : (fn (F := Ideal) a0 a1 a2 a3 a4 a5 a6 a7 a8 a9 a10 a11 a12).1 = fun _ => 1#1) (p : Fin 4096) (e : Fin 2) :
    ∃ b : Fin 10000, a10 (ix2 p e) = BitVec.ofNat 32 b.val := by
  have := congrFun h (ix2 p e)
  pointwise [fn] at this
  exact node_word _ this

/-- Every path entry is a node number. -/
theorem nodes_of (h : (fn (F := Ideal) a0 a1 a2 a3 a4 a5 a6 a7 a8 a9 a10 a11 a12).2.1 = fun _ => 1#1) (p : Fin 4096) (l : Fin 10) :
    ∃ b : Fin 10000, a11 (ix2 p l) = BitVec.ofNat 32 b.val := by
  have := congrFun h (ix2 p l)
  pointwise [fn] at this
  exact node_word _ this

/-- Every path length lies between one and ten. -/
theorem lengths_of (h : (fn (F := Ideal) a0 a1 a2 a3 a4 a5 a6 a7 a8 a9 a10 a11 a12).2.2 = fun _ => 1#1) (p : Fin 4096) :
    ∃ k : ℕ, 1 ≤ k ∧ k ≤ 10 ∧ a12 (ix1 p) = BitVec.ofNat 32 k := by
  have := congrFun h (ix1 p)
  pointwise [fn] at this
  exact length_word _ this

end Cert.Proof.Ranges

end
-- ==== Proof.Picks.lean ====
module

public import proofs.«01_k».proof.Proof.Gen.KernelIdeal.Frame
public import proofs.«01_k».proof.Proof.Gen.ReferenceIdeal.Read
public import Idealize.ShloMosaic.Lib.Pointwise
public import Idealize.ShloMosaic.Lib.Routing.Ops
public import Idealize.ShloMosaic.Lib.Routing.OpsPair

@[expose] public section

set_option maxRecDepth 16384

noncomputable section

/-! The gathers and scatters of the two programs read at an index. -/

namespace Cert.Proof.Picks

open Idealize.ShloMosaic Idealize.ShloMosaic.TcCoe Idealize.SL.Sem

section Gathers

variable {α : Type}

/-- A nonnegative word below `2 ^ 31` read as a signed number. -/
theorem toInt_small (b : Nat) (h : b < 2 ^ 31) : (BitVec.ofNat 32 b).toInt.toNat = b := by
  rw [BitVec.toInt_eq_toNat_of_lt (by rw [BitVec.toNat_ofNat]; omega), BitVec.toNat_ofNat]
  omega

/-- The kernel's gather of the path nodes' embeddings: entry `(p, l, y)` is entry `y` of the node named at `(p, l)`. -/
theorem gather_paths_k (x : Cert.KernelIdeal.S10240x256.Idx → α) (idx : IVec Cert.KernelIdeal.S4096x10x1 32) (p : Fin 4096) (l : Fin 10)
    (y : Fin 256) (b : Fin 10240) (hb : idx (ix3 p l 0) = BitVec.ofNat 32 b.val) :
    Host.gather Cert.KernelIdeal.gather_S10240x256_S4096x10x1_S4096x10x256_2_0_n_n_0_2_1256 x idx (ix3 p l y)
      = x (ix2 b y) := by
  unfold Host.gather
  refine congrArg x (funext fun a => Fin.ext ?_)
  have hs := b.isLt
  match a with
  | ⟨0, _⟩ =>
    have e : Cert.KernelIdeal.gather_S10240x256_S4096x10x1_S4096x10x256_2_0_n_n_0_2_1256.siIdx (ix3 p l y) ⟨0, by decide⟩
        = ix3 p l 0 := by
      funext q; fin_cases q <;> rfl
    show min (idx (Cert.KernelIdeal.gather_S10240x256_S4096x10x1_S4096x10x256_2_0_n_n_0_2_1256.siIdx (ix3 p l y)
      ⟨0, by decide⟩)).toInt.toNat (10240 - 1) + 0 + 0 = b.val
    rw [e, hb, toInt_small _ (by omega)]
    omega
  | ⟨1, _⟩ =>
    show 0 + 0 + y.val = y.val
    omega

/-- The reference's gather over the paths and their reversals: entry `(p, l, y)` is entry `y` of the node named at `(p, l)`. -/
theorem gather_paths_r (x : Cert.ReferenceIdeal.S10000x256.Idx → α) (idx : IVec Cert.ReferenceIdeal.S8192x10x1 32) (p : Fin 8192) (l : Fin 10)
    (y : Fin 256) (b : Fin 10000) (hb : idx (ix3 p l 0) = BitVec.ofNat 32 b.val) :
    Host.gather Cert.ReferenceIdeal.gather_S10000x256_S8192x10x1_S8192x10x256_2_0_n_n_0_2_1256 x idx (ix3 p l y)
      = x (ix2 b y) := by
  unfold Host.gather
  refine congrArg x (funext fun a => Fin.ext ?_)
  have hs := b.isLt
  match a with
  | ⟨0, _⟩ =>
    have e : Cert.ReferenceIdeal.gather_S10000x256_S8192x10x1_S8192x10x256_2_0_n_n_0_2_1256.siIdx (ix3 p l y) ⟨0, by decide⟩
        = ix3 p l 0 := by
      funext q; fin_cases q <;> rfl
    show min (idx (Cert.ReferenceIdeal.gather_S10000x256_S8192x10x1_S8192x10x256_2_0_n_n_0_2_1256.siIdx (ix3 p l y)
      ⟨0, by decide⟩)).toInt.toNat (10000 - 1) + 0 + 0 = b.val
    rw [e, hb, toInt_small _ (by omega)]
    omega
  | ⟨1, _⟩ =>
    show 0 + 0 + y.val = y.val
    omega

/-- The kernel's gather of one end of every pair: row `p` is the named node's row. -/
theorem gather_pair_k (x : Cert.KernelIdeal.S10240x256.Idx → α) (idx : IVec Cert.KernelIdeal.S4096x1 32) (p : Fin 4096)
    (y : Fin 256) (b : Fin 10240) (hb : idx (ix2 p 0) = BitVec.ofNat 32 b.val) :
    Host.gather Cert.KernelIdeal.gather_S10240x256_S4096x1_S4096x256_1_0_n_n_0_1_1256 x idx (ix2 p y)
      = x (ix2 b y) :=
  Routing.gather_row _ rfl rfl rfl rfl rfl x idx p y b hb (by norm_num)

/-- The reference's gather of one end of every pair: row `p` is the named node's row. -/
theorem gather_pair_r (x : Cert.ReferenceIdeal.S10000x256.Idx → α) (idx : IVec Cert.ReferenceIdeal.S4096x1 32) (p : Fin 4096)
    (y : Fin 256) (b : Fin 10000) (hb : idx (ix2 p 0) = BitVec.ofNat 32 b.val) :
    Host.gather Cert.ReferenceIdeal.gather_S10000x256_S4096x1_S4096x256_1_0_n_n_0_1_1256 x idx (ix2 p y)
      = x (ix2 b y) :=
  Routing.gather_row _ rfl rfl rfl rfl rfl x idx p y b hb (by norm_num)

/-- The reference's reordering of a path: entry `(p, l)` is the path's entry at the position named at `(p, l)`. -/
theorem gather_along (x : Cert.ReferenceIdeal.S4096x10.Idx → α) (idx : IVec Cert.ReferenceIdeal.S4096x10x1 32) (p : Fin 4096)
    (l b : Fin 10) (hb : idx (ix3 p l 0) = BitVec.ofNat 32 b.val) :
    Host.gather Cert.ReferenceIdeal.gather_S4096x10_S4096x10x1_S4096x10_n_1_0_0_1_2_11 x idx (ix2 p l) = x (ix2 p b) := by
  unfold Host.gather
  refine congrArg x (funext fun a => Fin.ext ?_)
  have hs := b.isLt
  match a with
  | ⟨0, _⟩ =>
    show 0 + p.val + 0 = p.val
    omega
  | ⟨1, _⟩ =>
    have e : Cert.ReferenceIdeal.gather_S4096x10_S4096x10x1_S4096x10_n_1_0_0_1_2_11.siIdx (ix2 p l) ⟨0, by decide⟩ = ix3 p l 0 := by
      funext q; fin_cases q <;> rfl
    show min (idx (Cert.ReferenceIdeal.gather_S4096x10_S4096x10x1_S4096x10_n_1_0_0_1_2_11.siIdx (ix2 p l)
      ⟨0, by decide⟩)).toInt.toNat (10 - 1) + 0 + 0 = b.val
    rw [e, hb, toInt_small _ (by omega)]
    omega

end Gathers

section Scatters

/-- The two programs' row scatters agree on the rows of the smaller array: the same updates land on a row below 10000. -/
theorem scatter_rows (xk : FVec Ideal Cert.KernelIdeal.S10240x256 .f32) (xr : FVec Ideal Cert.ReferenceIdeal.S10000x256 .f32)
    (idx : IVec Cert.KernelIdeal.S160000x1 32) (upd : FVec Ideal Cert.KernelIdeal.S160000x256 .f32) (n : Fin 10000) (y : Fin 256)
    (hx : xk (ix2 ⟨n.val, by omega⟩ y) = xr (ix2 n y)) :
    Host.scatterAdd Cert.KernelIdeal.scatter_S10240x256_S160000x1_S160000x256_1_0_0_1 xk idx upd (ix2 ⟨n.val, by omega⟩ y)
      = Host.scatterAdd Cert.ReferenceIdeal.scatter_S10000x256_S160000x1_S160000x256_1_0_0_1 xr idx upd (ix2 n y) := by
  show xk _ + Finset.sum _ _ = xr _ + Finset.sum _ _
  rw [hx]
  refine congrArg _ (Finset.sum_congr (Finset.filter_congr fun j _ => ?_) fun j _ => rfl)
  rw [Routing.resultIdx?_eq_some, Routing.resultIdx?_eq_some]
  exact ⟨fun h a => match a with | ⟨0, _⟩ => h 0 | ⟨1, _⟩ => h 1, fun h a => match a with | ⟨0, _⟩ => h 0 | ⟨1, _⟩ => h 1⟩

/-- The two programs' degree scatters agree on the entries of the smaller array. -/
theorem scatter_counts (xk : FVec Ideal Cert.KernelIdeal.S10240 .f32) (xr : FVec Ideal Cert.ReferenceIdeal.S10000 .f32)
    (idx : IVec Cert.KernelIdeal.S160000x1 32) (upd : FVec Ideal Cert.KernelIdeal.S160000 .f32) (n : Fin 10000)
    (hx : xk (ix1 ⟨n.val, by omega⟩) = xr (ix1 n)) :
    Host.scatterAdd Cert.KernelIdeal.scatter_S10240_S160000x1_S160000_n_0_0_1 xk idx upd (ix1 ⟨n.val, by omega⟩)
      = Host.scatterAdd Cert.ReferenceIdeal.scatter_S10000_S160000x1_S160000_n_0_0_1 xr idx upd (ix1 n) := by
  show xk _ + Finset.sum _ _ = xr _ + Finset.sum _ _
  rw [hx]
  refine congrArg _ (Finset.sum_congr (Finset.filter_congr fun j _ => ?_) fun j _ => rfl)
  rw [Routing.resultIdx?_eq_some, Routing.resultIdx?_eq_some]
  exact ⟨fun h a => match a with | ⟨0, _⟩ => h 0, fun h a => match a with | ⟨0, _⟩ => h 0⟩

/-- A finite sum of ones is the number of its terms. -/
theorem sum_ones {ι : Type} (S : Finset ι) : (∑ _j ∈ S, (1 : EReal)) = ((S.card : ℝ) : EReal) := by
  rw [Finset.sum_const, EReal.nsmul_eq_mul, mul_one, EReal.coe_natCast]

/-- A scatter of ones into zeros holds a natural number everywhere: how many updates land there. -/
theorem scatter_ones {s si u : Shape} (d : ScatterDims s si u) (x : FVec Ideal s .f32) (idx : IVec si 32) (upd : FVec Ideal u .f32)
    (hx : ∀ i, x i = (0 : EReal)) (hu : ∀ i, upd i = (1 : EReal)) (i : s.Idx) :
    ∃ k : ℕ, Host.scatterAdd d x idx upd i = ((k : ℝ) : EReal) := by
  refine ⟨(Finset.univ.filter fun j => d.resultIdx? j idx = some i).card, ?_⟩
  show (x i + Finset.sum _ _ : EReal) = _
  rw [hx, zero_add, Finset.sum_congr rfl fun j _ => hu j]
  exact sum_ones _

end Scatters

end Cert.Proof.Picks

end
-- ==== Proof.Regions.lean ====
module

public import proofs.«01_k».proof.Proof.Gen.KernelIdeal.Frame
public import Idealize.ShloMosaic.Lib.Pointwise
public import Idealize.ShloMosaic.Lib.Pipeline.ValueKit
public import Idealize.ShloMosaic.Lib.WordCmp

@[expose] public section

set_option maxRecDepth 16384

noncomputable section

/-! The two regions of the idealized kernel as functions of the arrays they read: the array a region leaves is, at every
index, a formula over the arrays it found. -/

namespace Cert.Proof.Regions

open Idealize.ShloMosaic Idealize.ShloMosaic.TcCoe Idealize.SL.Sem
open Cert.KernelIdeal Cert.KernelIdeal.Gen

/-- The node embeddings of the first region: the two halves of a node's summed messages, each scaled by the reciprocal of its
    degree (at least one) and multiplied by its half of the weights; the bias added, clamped below at zero; zero past row 9999. -/
def nodes (A0 A1 : FVec Ideal S10240x128 .f32) (Dg : FVec Ideal S10240x1 .f32) (W : FVec Ideal S256x256 .f32)
    (B : FVec Ideal S1x256 .f32) (n : Fin 10240) (q : Fin 256) : EReal :=
  if n.val < 10000 then
    max (∑ k : Fin 128, A0 (ix2 n k) * Ideal.div 1 (max (Dg (ix2 n 0)) 1) * W (ix2 ⟨k.val, by omega⟩ q)
      + ∑ k : Fin 128, A1 (ix2 n k) * Ideal.div 1 (max (Dg (ix2 n 0)) 1) * W (ix2 ⟨128 + k.val, by omega⟩ q)
      + B (ix2 0 q)) 0
  else 0

/-- What the second region makes of a path's summed embeddings: twice the clamped affine image of their mean. -/
def pathEmb (P0 P1 : FVec Ideal S4096x128 .f32) (Ln : FVec Ideal S4096x1 .f32) (W : FVec Ideal S256x256 .f32)
    (B : FVec Ideal S1x256 .f32) (p : Fin 4096) (q : Fin 256) : EReal :=
  Ideal.ofBits .f32 0x40000000#32
    * max (∑ k : Fin 128, P0 (ix2 p k) * Ideal.div 1 (Ln (ix2 p 0)) * W (ix2 ⟨k.val, by omega⟩ q)
        + ∑ k : Fin 128, P1 (ix2 p k) * Ideal.div 1 (Ln (ix2 p 0)) * W (ix2 ⟨128 + k.val, by omega⟩ q)
        + B (ix2 0 q)) 0

/-- The second region's score of a pair: the five pieces of its features against their rows of the first layer, the bias,
    the clamp at zero, and the second layer's weighted sum and bias. -/
def scores (P0 P1 U0 U1 V0 V1 : FVec Ideal S4096x128 .f32) (Ln : FVec Ideal S4096x1 .f32) (Wp : FVec Ideal S256x256 .f32)
    (Bp : FVec Ideal S1x256 .f32) (W1 : FVec Ideal S768x256 .f32) (B1 W2 : FVec Ideal S1x256 .f32) (B2 : FVec Ideal S1x1 .f32)
    (p : Fin 4096) : EReal :=
  ∑ q : Fin 256,
      max (∑ k : Fin 128, U0 (ix2 p k) * W1 (ix2 ⟨k.val, by omega⟩ q)
        + ∑ k : Fin 128, U1 (ix2 p k) * W1 (ix2 ⟨128 + k.val, by omega⟩ q)
        + ∑ k : Fin 128, V0 (ix2 p k) * W1 (ix2 ⟨256 + k.val, by omega⟩ q)
        + ∑ k : Fin 128, V1 (ix2 p k) * W1 (ix2 ⟨384 + k.val, by omega⟩ q)
        + ∑ k : Fin 256, pathEmb P0 P1 Ln Wp Bp p k * W1 (ix2 ⟨512 + k.val, by omega⟩ q)
        + B1 (ix2 0 q)) 0 * W2 (ix2 0 q)
    + B2 (ix2 0 0)

/-- Whether a row of block `t` lies below row 10000, as the kernel's words decide it. -/
theorem row_word (t : Nat) (ht : t < 10) (r : Fin 1024) (x : EReal) :
    Scalar.select (IntOp.cmpi CmpIPredicate.slt (IntOp.addi (Scalar.muli (BitVec.ofNat 32 t) 1024#32) (BitVec.ofNat 32 r.val))
        10000#32) x 0 = if t * 1024 + r.val < 10000 then x else 0 := by
  have hr := r.isLt
  have e : IntOp.addi (Scalar.muli (BitVec.ofNat 32 t) 1024#32) (BitVec.ofNat 32 r.val)
      = BitVec.ofNat 32 (t * 1024 + r.val) := by
    apply BitVec.eq_of_toNat_eq
    simp [IntOp.addi, Scalar.muli, IntOp.muli, BitVec.toNat_add, BitVec.toNat_mul]
  rw [e]
  by_cases h : t * 1024 + r.val < 10000
  · rw [if_pos h]
    have : IntOp.cmpi CmpIPredicate.slt (BitVec.ofNat 32 (t * 1024 + r.val)) 10000#32 = 1#1 := by word_cmp
    rw [this]; rfl
  · rw [if_neg h]
    have : IntOp.cmpi CmpIPredicate.slt (BitVec.ofNat 32 (t * 1024 + r.val)) 10000#32 = 0#1 := by word_cmp
    rw [this]; rfl

/-- The first region's windows over its grid: the row windows move a block per point, the weights and the bias stay. -/
theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ (grid0.coords t 0).val = t.val
    ∧ t.val < 10 :=
  (by decide +kernel : ∀ t : Fin grid0.N, _)

/-- The second region's windows over its grid. -/
theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![0, 0] ∧ win1_8.index t = ![0, 0] ∧ win1_9.index t = ![0, 0] ∧ win1_10.index t = ![0, 0]
    ∧ win1_11.index t = ![0, 0] ∧ win1_12.index t = ![0, 0] ∧ win1_13.index t = ![t.val, 0] ∧ t.val < 4 :=
  (by decide +kernel : ∀ t : Fin grid1.N, _)

variable (V : (c : Dev nD) → (b : Ref sig .tc) → Buf (Elt Ideal) ((c : Thread nD τ).loc b))

/-- The first region leaves the node embeddings of the arrays it found. -/
theorem region0 (c : Dev nD) (n : Fin 10240) (q : Fin 256) :
    (dat0 V c).arrAt 5 cfg0.N (ix2 n q)
      = nodes (V c main_v18) (V c main_v19) (V c main_v20) (V c main_arg1) (V c main_v21) n q := by
  have key : (dat0 V c).arrAt 5 cfg0.N
      = fun i => nodes (V c main_v18) (V c main_v19) (V c main_v20) (V c main_arg1) (V c main_v21) (i 0) (i 1) := by
    refine (dat0 V c).arrAt_eq_of_covers 5 _ (by decide +kernel) fun t hf y => ?_
    blk_simp
    rw [after0_5]
    frame_out
    obtain ⟨e0, e1, e2, e3, e4, e5, et, ht⟩ := idx0 t
    idx_vars y
    pointwise [k0_pay1]
    rw [et, row_word t.val ht]
    unfold nodes
    have hc : ∀ a b : EReal, ∀ p q : Prop, ∀ [Decidable p] [Decidable q], (p ↔ q) → a = b → (if p then a else 0) = (if q then b else 0) := by
      intro a b p q _ _ h e; subst e; exact if_congr h rfl rfl
    refine hc _ _ _ _ ?_ ?_
    · blk_simp [e5]
    · blk_point [iblk0, e0, e1, e2, e3, e4, e5]
  exact congrFun key (ix2 n q)

/-- The second region leaves the scores of the arrays it found. -/
theorem region1 (c : Dev nD) (p : Fin 4096) :
    (dat1 V c).arrAt 13 cfg1.N (ix2 p 0)
      = scores (V c main_v58) (V c main_v59) (V c main_v60) (V c main_v61) (V c main_v62) (V c main_v63) (V c main_v57)
          (V c main_arg3) (V c main_v64) (V c main_arg5) (V c main_v65) (V c main_v66) (V c main_v67) p := by
  have key : (dat1 V c).arrAt 13 cfg1.N
      = fun i => scores (V c main_v58) (V c main_v59) (V c main_v60) (V c main_v61) (V c main_v62) (V c main_v63)
          (V c main_v57) (V c main_arg3) (V c main_v64) (V c main_arg5) (V c main_v65) (V c main_v66) (V c main_v67) (i 0) := by
    refine (dat1 V c).arrAt_eq_of_covers 13 _ (by decide +kernel) fun t hf y => ?_
    blk_simp
    rw [after1_13]
    frame_out
    obtain ⟨e0, e1, e2, e3, e4, e5, e6, e7, e8, e9, e10, e11, e12, e13, ht⟩ := idx1 t
    idx_vars y
    pointwise [k1_pay1, k1_pay2, k1_pay3, k1_pay4]
    unfold scores pathEmb
    blk_point [iblk1, e0, e1, e2, e3, e4, e5, e6, e7, e8, e9, e10, e11, e12, e13]
  exact congrFun key (ix2 p 0)

end Cert.Proof.Regions

end
-- ==== Proof.HostReads.lean ====
module
public import proofs.«01_k».proof.Proof.Picks
public import Idealize.ShloMosaic.Lib.Pipeline.ValueKit
public import Idealize.ShloMosaic.Lib.StableHlo.ReadAt
public import proofs.«01_k».proof.Proof.Regions
@[expose] public section

set_option maxRecDepth 16384
noncomputable section
namespace Cert.Proof.HostReads
open Idealize.ShloMosaic Idealize.ShloMosaic.TcCoe Idealize.SL.Sem
open Cert.KernelIdeal Cert.KernelIdeal.Gen
open Cert.ReferenceIdeal.Read (val_main_v10 val_main_v12 val_main_v14 val_main_v16)

variable (m : (ℓ : Loc nD τ sig) → Buf (Elt Ideal) ℓ) (ρ : Dev nD → PrngReg)

/-- The summed messages on the padded rows: every edge's source row added into its destination's row. -/
def msgs (x0 : FVec Ideal S10000x256 .f32) (x9 : IVec S2x160000 32) : FVec Ideal S10240x256 .f32 :=
  Host.scatterAdd scatter_S10240x256_S160000x1_S160000x256_1_0_0_1
    (broadcastInDim S10240x256 ![] bcast_S_S10240x256 (constant S_ .f32 0x00000000#32))
    (val_main_v12 (F := Ideal) x9) (val_main_v10 (F := Ideal) x0 x9)

/-- The degrees on the padded rows: a one for every edge added at its destination. -/
def degs (x9 : IVec S2x160000 32) : FVec Ideal S10240 .f32 :=
  Host.scatterAdd scatter_S10240_S160000x1_S160000_n_0_0_1
    (broadcastInDim S10240 ![] bcast_S_S10240 (constant S_ .f32 0x00000000#32))
    (val_main_v16 (F := Ideal) x9) (val_main_v14 (F := Ideal))

/-- The path entries the kernel gathers at: node `j` of a path where `j` is below the path's length, the first padded row
    past it, each wrapped as an index of 10240 rows. -/
def pathIdx (x11 : IVec S4096x10 32) (x12 : IVec S4096 32) : IVec S4096x10 32 :=
  select
    (cmpi .slt (broadcastInDim S4096x10 ![0, 1] bcast_S1x10_S4096x10_0_1 (broadcastInDim S1x10 ![1] bcast_S10_S1x10_1 (iotaInDim S10 32 0)))
      (broadcastInDim S4096x10 ![0, 1] bcast_S4096x1_S4096x10_0_1 (broadcastInDim S4096x1 ![0] bcast_S4096_S4096x1_0 x12)))
    x11 (broadcastInDim S4096x10 ![] bcast_S_S4096x10 (constantI S_ 32 10000#32))

/-- `pathIdx` wrapped as an index of 10240 rows, as a column. -/
def pathCol (x11 : IVec S4096x10 32) (x12 : IVec S4096 32) : IVec S4096x10x1 32 :=
  broadcastInDim S4096x10x1 ![0, 1] bcast_S4096x10_S4096x10x1_0_1
    (select (cmpi .slt (pathIdx x11 x12) (broadcastInDim S4096x10 ![] bcast_S_S4096x10 (constantI S_ 32 0#32)))
      (addi (pathIdx x11 x12) (broadcastInDim S4096x10 ![] bcast_S_S4096x10 (constantI S_ 32 10240#32))) (pathIdx x11 x12))

/-- The sum of a path's gathered embeddings. -/
def pathSum (h : FVec Ideal S10240x256 .f32) (x11 : IVec S4096x10 32) (x12 : IVec S4096 32) : FVec Ideal S4096x256 .f32 :=
  Host.reduceAdd (Host.gather gather_S10240x256_S4096x10x1_S4096x10x256_2_0_n_n_0_2_1256 h (pathCol x11 x12))
    (constant S_ .f32 0x00000000#32) reducesTo_S4096x10x256_S4096x256_d1 h_S_

/-- A vector of node numbers wrapped as indices of 10240 rows, as a column. -/
def wrapCol (v : IVec S4096 32) : IVec S4096x1 32 :=
  broadcastInDim S4096x1 ![0] bcast_S4096_S4096x1_0
    (select (cmpi .slt v (broadcastInDim S4096 ![] bcast_S_S4096 (constantI S_ 32 0#32)))
      (addi v (broadcastInDim S4096 ![] bcast_S_S4096 (constantI S_ 32 10240#32))) v)

/-- The embeddings of the first end of every pair. -/
def endU (h : FVec Ideal S10240x256 .f32) (x10 : IVec S4096x2 32) : FVec Ideal S4096x256 .f32 :=
  Host.gather gather_S10240x256_S4096x1_S4096x256_1_0_n_n_0_1_1256 h
    (wrapCol (shapeCast S4096 (extractStridedSlice S4096x1 ![0, 0] x10 slices_S4096x2_S4096x1_0_0) shapeCasts_S4096x1_S4096))

/-- The embeddings of the second end of every pair. -/
def endV (h : FVec Ideal S10240x256 .f32) (x10 : IVec S4096x2 32) : FVec Ideal S4096x256 .f32 :=
  Host.gather gather_S10240x256_S4096x1_S4096x256_1_0_n_n_0_1_1256 h
    (wrapCol (shapeCast S4096 (extractStridedSlice S4096x1 ![0, 1] x10 slices_S4096x2_S4096x1_0_1) shapeCasts_S4096x1_S4096))

/-! ## The first region's arrays at its entry -/

/-- The first half of the summed messages. -/
theorem v18_at (c : Dev nD) : V1 m ρ c main_v18
    = extractStridedSlice S10240x128 ![0, 0] (msgs (m ((c : Thread nD τ).loc main_arg0)) (m ((c : Thread nD τ).loc main_arg9)))
        slices_S10240x256_S10240x128_0_0 := by
  show StableHlo.after hostOps0 (W0 m ρ c) (Proc.devRef .tc main_v18) = _
  after_results
  all_goals rfl

/-- The second half of the summed messages. -/
theorem v19_at (c : Dev nD) : V1 m ρ c main_v19
    = extractStridedSlice S10240x128 ![0, 128] (msgs (m ((c : Thread nD τ).loc main_arg0)) (m ((c : Thread nD τ).loc main_arg9)))
        slices_S10240x256_S10240x128_0_128 := by
  show StableHlo.after hostOps0 (W0 m ρ c) (Proc.devRef .tc main_v19) = _
  after_results
  all_goals rfl

/-- The degrees, as a column. -/
theorem v20_at (c : Dev nD) : V1 m ρ c main_v20
    = broadcastInDim S10240x1 ![0] bcast_S10240_S10240x1_0 (degs (m ((c : Thread nD τ).loc main_arg9))) := by
  show StableHlo.after hostOps0 (W0 m ρ c) (Proc.devRef .tc main_v20) = _
  after_results
  all_goals rfl

/-- The first layer's bias, as a row. -/
theorem v21_at (c : Dev nD) : V1 m ρ c main_v21
    = shapeCast S1x256 (m ((c : Thread nD τ).loc main_arg2) : FVec Ideal S256 .f32) shapeCasts_S256_S1x256 := by
  show StableHlo.after hostOps0 (W0 m ρ c) (Proc.devRef .tc main_v21) = _
  after_results
  all_goals rfl

/-! ## The second region's arrays at its entry -/

/-- The embeddings the first region left, as the later host operations find them. -/
theorem v22_at (c : Dev nD) : W4 m ρ c (Proc.devRef .tc main_v22) = (dat0 (V1 m ρ) c).arrAt 5 cfg0.N :=
  ((W4_of m ρ c main_v22 (by decide)).trans (W3_of m ρ c main_v22 (by decide))).trans (W2_arr m ρ c 5)

/-- The path entries, as the later host operations find them. -/
theorem v29_at (c : Dev nD) : W4 m ρ c (Proc.devRef .tc main_v29)
    = pathIdx (m ((c : Thread nD τ).loc main_arg11)) (m ((c : Thread nD τ).loc main_arg12)) := by
  have e11 : W3 m ρ c (Proc.devRef .tc main_arg11) = m ((c : Thread nD τ).loc main_arg11) := W3_args m ρ c main_arg11 (by decide)
  have e12 : W2 m ρ c (Proc.devRef .tc main_arg12) = m ((c : Thread nD τ).loc main_arg12) := W2_args m ρ c main_arg12 (by decide)
  have e28 : W3 m ρ c (Proc.devRef .tc main_v28)
      = cmpi .slt (broadcastInDim S4096x10 ![0, 1] bcast_S1x10_S4096x10_0_1 (broadcastInDim S1x10 ![1] bcast_S10_S1x10_1 (iotaInDim S10 32 0)))
      (broadcastInDim S4096x10 ![0, 1] bcast_S4096x1_S4096x10_0_1 (broadcastInDim S4096x1 ![0] bcast_S4096_S4096x1_0
        (m ((c : Thread nD τ).loc main_arg12) : IVec S4096 32))) := by
    rw [← e12]
    show StableHlo.after hostOps1 (W2 m ρ c) (Proc.devRef .tc main_v28) = _
    after_results
    try rfl
  have ec3 : W3 m ρ c (Proc.devRef .tc main_c_3) = constantI S_ 32 10000#32 := by
    show StableHlo.after hostOps1 (W2 m ρ c) (Proc.devRef .tc main_c_3) = _
    after_results
    try rfl
  show StableHlo.after hostOps1_1 (W3 m ρ c) (Proc.devRef .tc main_v29) = _
  generalize W3 m ρ c = W at e11 e28 ec3
  after_results
  simp only [StableHlo.TRef.toBuf, StableHlo.TRef.ofBuf, cast_eq]
  rw [e28, ec3, e11]
  all_goals rfl

/-- The first half of the summed path embeddings. -/
theorem v58_at (c : Dev nD) : V5 m ρ c main_v58
    = extractStridedSlice S4096x128 ![0, 0] (pathSum ((dat0 (V1 m ρ) c).arrAt 5 cfg0.N) (m ((c : Thread nD τ).loc main_arg11)) (m ((c : Thread nD τ).loc main_arg12))) slices_S4096x256_S4096x128_0_0 := by
  have e10 : W4 m ρ c (Proc.devRef .tc main_arg10) = m ((c : Thread nD τ).loc main_arg10) := W4_args m ρ c main_arg10 (by decide)
  show StableHlo.after hostOps1_2 (W4 m ρ c) (Proc.devRef .tc main_v58) = _
  unfold pathSum pathCol
  rw [← v22_at, ← v29_at]
  generalize W4 m ρ c = W
  after_results
  all_goals rfl

/-- The second half of the summed path embeddings. -/
theorem v59_at (c : Dev nD) : V5 m ρ c main_v59
    = extractStridedSlice S4096x128 ![0, 128] (pathSum ((dat0 (V1 m ρ) c).arrAt 5 cfg0.N) (m ((c : Thread nD τ).loc main_arg11)) (m ((c : Thread nD τ).loc main_arg12))) slices_S4096x256_S4096x128_0_128 := by
  have e10 : W4 m ρ c (Proc.devRef .tc main_arg10) = m ((c : Thread nD τ).loc main_arg10) := W4_args m ρ c main_arg10 (by decide)
  show StableHlo.after hostOps1_2 (W4 m ρ c) (Proc.devRef .tc main_v59) = _
  unfold pathSum pathCol
  rw [← v22_at, ← v29_at]
  generalize W4 m ρ c = W
  after_results
  all_goals rfl

/-- The first half of the first ends' embeddings. -/
theorem v60_at (c : Dev nD) : V5 m ρ c main_v60
    = extractStridedSlice S4096x128 ![0, 0] (endU ((dat0 (V1 m ρ) c).arrAt 5 cfg0.N) (m ((c : Thread nD τ).loc main_arg10))) slices_S4096x256_S4096x128_0_0 := by
  have e10 : W4 m ρ c (Proc.devRef .tc main_arg10) = m ((c : Thread nD τ).loc main_arg10) := W4_args m ρ c main_arg10 (by decide)
  show StableHlo.after hostOps1_2 (W4 m ρ c) (Proc.devRef .tc main_v60) = _
  unfold endU wrapCol
  rw [← v22_at, ← e10]
  generalize W4 m ρ c = W
  after_results
  all_goals rfl

/-- The second half of the first ends' embeddings. -/
theorem v61_at (c : Dev nD) : V5 m ρ c main_v61
    = extractStridedSlice S4096x128 ![0, 128] (endU ((dat0 (V1 m ρ) c).arrAt 5 cfg0.N) (m ((c : Thread nD τ).loc main_arg10))) slices_S4096x256_S4096x128_0_128 := by
  have e10 : W4 m ρ c (Proc.devRef .tc main_arg10) = m ((c : Thread nD τ).loc main_arg10) := W4_args m ρ c main_arg10 (by decide)
  show StableHlo.after hostOps1_2 (W4 m ρ c) (Proc.devRef .tc main_v61) = _
  unfold endU wrapCol
  rw [← v22_at, ← e10]
  generalize W4 m ρ c = W
  after_results
  all_goals rfl

/-- The first half of the second ends' embeddings. -/
theorem v62_at (c : Dev nD) : V5 m ρ c main_v62
    = extractStridedSlice S4096x128 ![0, 0] (endV ((dat0 (V1 m ρ) c).arrAt 5 cfg0.N) (m ((c : Thread nD τ).loc main_arg10))) slices_S4096x256_S4096x128_0_0 := by
  have e10 : W4 m ρ c (Proc.devRef .tc main_arg10) = m ((c : Thread nD τ).loc main_arg10) := W4_args m ρ c main_arg10 (by decide)
  show StableHlo.after hostOps1_2 (W4 m ρ c) (Proc.devRef .tc main_v62) = _
  unfold endV wrapCol
  rw [← v22_at, ← e10]
  generalize W4 m ρ c = W
  after_results
  all_goals rfl

/-- The second half of the second ends' embeddings. -/
theorem v63_at (c : Dev nD) : V5 m ρ c main_v63
    = extractStridedSlice S4096x128 ![0, 128] (endV ((dat0 (V1 m ρ) c).arrAt 5 cfg0.N) (m ((c : Thread nD τ).loc main_arg10))) slices_S4096x256_S4096x128_0_128 := by
  have e10 : W4 m ρ c (Proc.devRef .tc main_arg10) = m ((c : Thread nD τ).loc main_arg10) := W4_args m ρ c main_arg10 (by decide)
  show StableHlo.after hostOps1_2 (W4 m ρ c) (Proc.devRef .tc main_v63) = _
  unfold endV wrapCol
  rw [← v22_at, ← e10]
  generalize W4 m ρ c = W
  after_results
  all_goals rfl

/-- The path lengths as numbers, as a column. -/
theorem v57_at (c : Dev nD) : V5 m ρ c main_v57 = broadcastInDim S4096x1 ![0] bcast_S4096_S4096x1_0
    (sitofp (F := Ideal) .f32 (m ((c : Thread nD τ).loc main_arg12) : IVec S4096 32)) := by
  have e : W4 m ρ c (Proc.devRef .tc main_arg12) = m ((c : Thread nD τ).loc main_arg12) := W4_args m ρ c main_arg12 (by decide)
  show StableHlo.after hostOps1_2 (W4 m ρ c) (Proc.devRef .tc main_v57) = _
  rw [← e]
  generalize W4 m ρ c = W
  after_results
  all_goals rfl

/-- The path layer's bias, as a row. -/
theorem v64_at (c : Dev nD) : V5 m ρ c main_v64 = shapeCast S1x256 (m ((c : Thread nD τ).loc main_arg4) : FVec Ideal S256 .f32) shapeCasts_S256_S1x256 := by
  have e : W4 m ρ c (Proc.devRef .tc main_arg4) = m ((c : Thread nD τ).loc main_arg4) := W4_args m ρ c main_arg4 (by decide)
  show StableHlo.after hostOps1_2 (W4 m ρ c) (Proc.devRef .tc main_v64) = _
  rw [← e]
  generalize W4 m ρ c = W
  after_results
  all_goals rfl

/-- The scorer's first bias, as a row. -/
theorem v65_at (c : Dev nD) : V5 m ρ c main_v65 = shapeCast S1x256 (m ((c : Thread nD τ).loc main_arg6) : FVec Ideal S256 .f32) shapeCasts_S256_S1x256 := by
  have e : W4 m ρ c (Proc.devRef .tc main_arg6) = m ((c : Thread nD τ).loc main_arg6) := W4_args m ρ c main_arg6 (by decide)
  show StableHlo.after hostOps1_2 (W4 m ρ c) (Proc.devRef .tc main_v65) = _
  rw [← e]
  generalize W4 m ρ c = W
  after_results
  all_goals rfl

/-- The scorer's second weights, as a row. -/
theorem v66_at (c : Dev nD) : V5 m ρ c main_v66 = shapeCast S1x256 (m ((c : Thread nD τ).loc main_arg7) : FVec Ideal S256x1 .f32) shapeCasts_S256x1_S1x256 := by
  have e : W4 m ρ c (Proc.devRef .tc main_arg7) = m ((c : Thread nD τ).loc main_arg7) := W4_args m ρ c main_arg7 (by decide)
  show StableHlo.after hostOps1_2 (W4 m ρ c) (Proc.devRef .tc main_v66) = _
  rw [← e]
  generalize W4 m ρ c = W
  after_results
  all_goals rfl

/-- The scorer's second bias, as a one-entry matrix. -/
theorem v67_at (c : Dev nD) : V5 m ρ c main_v67 = shapeCast S1x1 (m ((c : Thread nD τ).loc main_arg8) : FVec Ideal S1 .f32) shapeCasts_S1_S1x1 := by
  have e : W4 m ρ c (Proc.devRef .tc main_arg8) = m ((c : Thread nD τ).loc main_arg8) := W4_args m ρ c main_arg8 (by decide)
  show StableHlo.after hostOps1_2 (W4 m ρ c) (Proc.devRef .tc main_v67) = _
  rw [← e]
  generalize W4 m ρ c = W
  after_results
  all_goals rfl

end Cert.Proof.HostReads

end
-- ==== Proof.PathsRef.lean ====
module

public import proofs.«01_k».proof.Proof.Picks
public import Idealize.ShloMosaic.Lib.Pointwise
public import Idealize.ShloMosaic.Lib.Tactic.WordOmega

@[expose] public section

set_option maxRecDepth 16384

noncomputable section

/-! The reference's paths: the forward rows and the reversed rows of its doubled batch, read at an index. -/

namespace Cert.Proof.Paths

open Idealize.ShloMosaic Idealize.ShloMosaic.TcCoe Idealize.SL.Sem
open Cert.ReferenceIdeal Cert.ReferenceIdeal.Read Cert.Proof.Picks

/-- The position that the reversal of a path of length `k` reads at position `l`: `k - 1 - l` inside the path, 0 past it. -/
def revPos (k : ℕ) (l : Fin 10) : Fin 10 :=
  if h : l.val < k ∧ k ≤ 10 then ⟨k - 1 - l.val, by omega⟩ else 0

/-- The reference's clamped subtraction computes the reversed position. -/
theorem rev_word {k : ℕ} (h1 : 1 ≤ k) (h2 : k ≤ 10) (l : Fin 10) :
    IntOp.minsi 9#32 (IntOp.maxsi 0#32 (IntOp.subi (IntOp.subi (BitVec.ofNat 32 k) 1#32) (BitVec.ofNat 32 l.val)))
      = BitVec.ofNat 32 (revPos k l).val := by
  have key : ∀ (a : Fin 11) (l : Fin 10), 1 ≤ a.val →
      IntOp.minsi 9#32 (IntOp.maxsi 0#32 (IntOp.subi (IntOp.subi (BitVec.ofNat 32 a.val) 1#32) (BitVec.ofNat 32 l.val)))
        = BitVec.ofNat 32 (revPos a.val l).val := by decide
  exact key ⟨k, by omega⟩ l h1

/-- The test of a position against the length, as a one bit word. -/
theorem inside_word {k : ℕ} (h2 : k ≤ 10) (l : Fin 10) :
    ~~~IntOp.cmpi .sge (BitVec.ofNat 32 l.val) (BitVec.ofNat 32 k) = if l.val < k then 1#1 else 0#1 := by
  have key : ∀ (a : Fin 11) (l : Fin 10),
      ~~~IntOp.cmpi .sge (BitVec.ofNat 32 l.val) (BitVec.ofNat 32 a.val) = if l.val < a.val then 1#1 else 0#1 := by decide
  exact key ⟨k, by omega⟩ l

/-- Multiplying by the mask keeps the value inside the path and gives zero past it. -/
theorem mul_mask {k : ℕ} (h2 : k ≤ 10) (l : Fin 10) (x : EReal) :
    x * FloatOps.uitofp (F := Ideal) .f32 (~~~IntOp.cmpi .sge (BitVec.ofNat 32 l.val) (BitVec.ofNat 32 k))
      = if l.val < k then x else 0 := by
  rw [inside_word h2 l]
  split
  · have : (FloatOps.uitofp (F := Ideal) .f32 1#1 : EReal) = 1 := by simp [FloatOps.uitofp]
    rw [this, mul_one]
  · have : (FloatOps.uitofp (F := Ideal) .f32 0#1 : EReal) = 0 := by simp [FloatOps.uitofp]
    rw [this, mul_zero]

/-- A small length as an extended real. -/
theorem length_real {k : ℕ} (h2 : k ≤ 10) :
    (FloatOps.sitofp (F := Ideal) .f32 (BitVec.ofNat 32 k) : EReal) = ((k : ℝ) : EReal) := by
  have : (BitVec.ofNat 32 k).toInt = (k : ℤ) := by interval_cases k <;> rfl
  simp [FloatOps.sitofp, this]

/-- Summing over the valid positions in reverse gives the same sum. -/
theorem sum_rev {k : ℕ} (h1 : 1 ≤ k) (h2 : k ≤ 10) (f : Fin 10 → EReal) :
    (∑ l : Fin 10, if l.val < k then f (revPos k l) else 0) = ∑ l : Fin 10, if l.val < k then f l else 0 := by
  rw [← Finset.sum_filter, ← Finset.sum_filter]
  refine Finset.sum_nbij' (revPos k) (revPos k) ?_ ?_ ?_ ?_ ?_
  · intro l hl
    simp only [Finset.mem_filter, Finset.mem_univ, true_and] at hl ⊢
    simp only [revPos, hl, h2, and_self, dite_true]
    omega
  · intro l hl
    simp only [Finset.mem_filter, Finset.mem_univ, true_and] at hl ⊢
    simp only [revPos, hl, h2, and_self, dite_true]
    omega
  · intro l hl
    simp only [Finset.mem_filter, Finset.mem_univ, true_and] at hl
    have e : (revPos k l).val = k - 1 - l.val := by simp only [revPos, hl, h2, and_self, dite_true]
    have h : (revPos k l).val < k ∧ k ≤ 10 := ⟨by omega, h2⟩
    apply Fin.ext
    rw [revPos, dif_pos h]
    show k - 1 - (revPos k l).val = l.val
    omega
  · intro l hl
    simp only [Finset.mem_filter, Finset.mem_univ, true_and] at hl
    have e : (revPos k l).val = k - 1 - l.val := by simp only [revPos, hl, h2, and_self, dite_true]
    have h : (revPos k l).val < k ∧ k ≤ 10 := ⟨by omega, h2⟩
    apply Fin.ext
    rw [revPos, dif_pos h]
    show k - 1 - (revPos k l).val = l.val
    omega
  · intro l _
    rfl

variable (x0 : FVec Ideal S10000x256 .f32) (x1 : FVec Ideal S256x256 .f32) (x2 : FVec Ideal S256 .f32) (x9 : IVec S2x160000 32)
  (x11 : IVec S4096x10 32) (x12 : IVec S4096 32)

/-- The position word of the reversed paths. -/
theorem position (p : Fin 4096) (l : Fin 10) {k : ℕ} (h1 : 1 ≤ k) (h2 : k ≤ 10) (hl : x12 (ix1 p) = BitVec.ofNat 32 k) :
    val_main_v54 (F := Ideal) x12 (ix2 p l) = BitVec.ofNat 32 (revPos k l).val := by
  pointwise [val_main_v54, val_main_call1_v4, val_main_call1_v3, val_main_c_10, val_main_call1_v2, val_main_call1_v1,
    val_main_call1_v0, val_main_c_9, val_main_v53, val_main_v52, val_main_v51, val_main_v50, val_main_v49, val_main_v48,
    val_main_c_8, val_main_v47, val_main_v46]
  rw [hl]
  exact rev_word h1 h2 l

/-- Every position below ten passes the bounds test of the gather along a row. -/
theorem bounds_word (b : Fin 10) :
    IntOp.andi
      (IntOp.cmpi .sge (Scalar.select (IntOp.cmpi .slt (BitVec.ofNat 32 b.val) 0#32)
        (IntOp.addi (BitVec.ofNat 32 b.val) 10#32) (BitVec.ofNat 32 b.val)) 0#32)
      (IntOp.cmpi .sle (Scalar.select (IntOp.cmpi .slt (BitVec.ofNat 32 b.val) 0#32)
        (IntOp.addi (BitVec.ofNat 32 b.val) 10#32) (BitVec.ofNat 32 b.val)) 9#32) = 1#1 := by
  revert b; decide

/-- A position below ten is not wrapped. -/
theorem wrap_word (b : Fin 10) :
    Scalar.select (IntOp.cmpi .slt (BitVec.ofNat 32 b.val) 0#32)
        (IntOp.addi (BitVec.ofNat 32 b.val) 10#32) (BitVec.ofNat 32 b.val) = BitVec.ofNat 32 b.val := by
  revert b; decide

/-- The bounds test of the reversal passes everywhere. -/
theorem bounds (p : Fin 4096) (l : Fin 10) {k : ℕ} (h1 : 1 ≤ k) (h2 : k ≤ 10) (hl : x12 (ix1 p) = BitVec.ofNat 32 k) :
    val_main_call2_v12 (F := Ideal) x12 (ix2 p l) = 1#1 := by
  pointwise [val_main_call2_v12, val_main_call2_c_3, val_main_call2_v11, val_main_call2_v10, val_main_call2_v9, val_main_call2_v8,
    val_main_call2_c_1, val_main_call2_v7, val_main_call2_v6, val_main_call2_c_2, val_main_call2_v5, val_main_call2_v4,
    val_main_call2_v3, val_main_call2_v2, val_main_call2_c_0, val_main_call2_v1, val_main_call2_v0, val_main_call2_c]
  simp only [position x12 p l h1 h2 hl, bounds_word]
  rfl

/-- The reversed path holds, at each position, the path's node at the reversed position. -/
theorem reversed (p : Fin 4096) (l : Fin 10) {k : ℕ} (h1 : 1 ≤ k) (h2 : k ≤ 10) (hl : x12 (ix1 p) = BitVec.ofNat 32 k) :
    val_main_v55 (F := Ideal) x11 x12 (ix2 p l) = x11 (ix2 p (revPos k l)) := by
  have hg : val_main_call2_v13 (F := Ideal) x11 x12 (ix2 p l) = x11 (ix2 p (revPos k l)) := by
    unfold val_main_call2_v13
    refine gather_along _ _ p l (revPos k l) ?_
    pointwise [val_main_call2_v5, val_main_call2_v4,
      val_main_call2_v3, val_main_call2_v2, val_main_call2_c_0, val_main_call2_v1, val_main_call2_v0, val_main_call2_c]
    rw [position x12 p l h1 h2 hl, wrap_word]
  pointwise [val_main_v55]
  rw [bounds x12 p l h1 h2 hl, hg]
  rfl

/-- A node number is not wrapped. -/
theorem wrap_node (b : Fin 10000) (d : BitVec 32) :
    Scalar.select (IntOp.cmpi .slt (BitVec.ofNat 32 b.val) 0#32)
        (IntOp.addi (BitVec.ofNat 32 b.val) d) (BitVec.ofNat 32 b.val) = BitVec.ofNat 32 b.val := by
  refine Routing.wrap_of_lt _ _ ?_
  have := b.isLt
  word_omega

/-- Row `p` of the doubled batch lists the nodes of path `p`. -/
theorem nodes_forward (p : Fin 4096) (l : Fin 10) (b : Fin 10000) (hb : x11 (ix2 p l) = BitVec.ofNat 32 b.val) :
    val_main_v63 (F := Ideal) x11 x12 (ix3 (⟨p.val, by omega⟩ : Fin 8192) l 0) = BitVec.ofNat 32 b.val := by
  pointwise [val_main_v63, val_main_v62, val_main_v61, val_main_v60, val_main_c_12, val_main_v59, val_main_v58, val_main_c_11, val_main_v56]
  simp only [p.isLt, dite_true, hb]
  exact wrap_node b _

/-- Row `4096 + p` of the doubled batch lists the nodes of the reversed path `p`. -/
theorem nodes_backward (p : Fin 4096) (l : Fin 10) (b : Fin 10000) {k : ℕ} (h1 : 1 ≤ k) (h2 : k ≤ 10)
    (hl : x12 (ix1 p) = BitVec.ofNat 32 k) (hb : x11 (ix2 p (revPos k l)) = BitVec.ofNat 32 b.val) :
    val_main_v63 (F := Ideal) x11 x12 (ix3 (⟨4096 + p.val, by omega⟩ : Fin 8192) l 0) = BitVec.ofNat 32 b.val := by
  pointwise [val_main_v63, val_main_v62, val_main_v61, val_main_v60, val_main_c_12, val_main_v59, val_main_v58, val_main_c_11, val_main_v56]
  have hn : ¬ (4096 + p.val < 4096) := by omega
  have hp : (⟨4096 + p.val - 4096, by omega⟩ : Fin 4096) = p := Fin.ext (by simp)
  simp only [hn, dite_false, hp, reversed x11 x12 p l h1 h2 hl, hb]
  exact wrap_node b _

/-- The sum of the embeddings of the nodes `nd 0, …, nd (k - 1)`. -/
def walk (nd : Fin 10 → Fin 10000) (k : ℕ) (y : Fin 256) : EReal :=
  ∑ l : Fin 10, if l.val < k then val_main_v27 (F := Ideal) x0 x1 x2 x9 (ix2 (nd l) y) else 0

/-- The mean of a forward path: the sum over its nodes, divided by its length. -/
theorem mean_forward (p : Fin 4096) (y : Fin 256) (nd : Fin 10 → Fin 10000) (hn : ∀ l, x11 (ix2 p l) = BitVec.ofNat 32 (nd l).val)
    {k : ℕ} (h2 : k ≤ 10) (hl : x12 (ix1 p) = BitVec.ofNat 32 k) :
    val_main_v79 (F := Ideal) x0 x1 x2 x9 x11 x12 (ix2 (⟨p.val, by omega⟩ : Fin 8192) y)
      = Ideal.div (walk x0 x1 x2 x9 nd k y) ((k : ℝ) : EReal) := by
  have hg : ∀ l : Fin 10, val_main_v64 (F := Ideal) x0 x1 x2 x9 x11 x12 (ix3 (⟨p.val, by omega⟩ : Fin 8192) l y)
      = val_main_v27 (F := Ideal) x0 x1 x2 x9 (ix2 (nd l) y) := fun l => by
    unfold val_main_v64
    exact gather_paths_r _ _ _ l y (nd l) (nodes_forward x11 x12 p l (nd l) (hn l))
  pointwise [val_main_v79, val_main_v78, val_main_v77, val_main_v76, val_main_v75, val_main_cst_13, val_main_v74, val_main_v73,
    val_main_v72, val_main_v71, val_main_v70, val_main_v69, val_main_v68, val_main_v67, val_main_v66, val_main_v65, val_main_v57, val_main_v46]
  simp only [p.isLt, dite_true, hl, length_real h2, mul_mask h2, hg]
  rfl

/-- The mean of a reversed path is the mean of the path. -/
theorem mean_backward (p : Fin 4096) (y : Fin 256) (nd : Fin 10 → Fin 10000) (hn : ∀ l, x11 (ix2 p l) = BitVec.ofNat 32 (nd l).val)
    {k : ℕ} (h1 : 1 ≤ k) (h2 : k ≤ 10) (hl : x12 (ix1 p) = BitVec.ofNat 32 k) :
    val_main_v79 (F := Ideal) x0 x1 x2 x9 x11 x12 (ix2 (⟨4096 + p.val, by omega⟩ : Fin 8192) y)
      = Ideal.div (walk x0 x1 x2 x9 nd k y) ((k : ℝ) : EReal) := by
  have hg : ∀ l : Fin 10, val_main_v64 (F := Ideal) x0 x1 x2 x9 x11 x12 (ix3 (⟨4096 + p.val, by omega⟩ : Fin 8192) l y)
      = val_main_v27 (F := Ideal) x0 x1 x2 x9 (ix2 (nd (revPos k l)) y) := fun l => by
    unfold val_main_v64
    exact gather_paths_r _ _ _ l y (nd (revPos k l)) (nodes_backward x11 x12 p l _ h1 h2 hl (hn _))
  have hp : (⟨4096 + p.val - 4096, by omega⟩ : Fin 4096) = p := Fin.ext (by simp)
  have hlt : ¬ (4096 + p.val < 4096) := by omega
  pointwise [val_main_v79, val_main_v78, val_main_v77, val_main_v76, val_main_v75, val_main_cst_13, val_main_v74, val_main_v73,
    val_main_v72, val_main_v71, val_main_v70, val_main_v69, val_main_v68, val_main_v67, val_main_v66, val_main_v65, val_main_v57, val_main_v46]
  simp only [hlt, dite_false, hp, hl, length_real h2, mul_mask h2, hg]
  rw [sum_rev h1 h2 (fun l => val_main_v27 (F := Ideal) x0 x1 x2 x9 (ix2 (nd l) y))]
  rfl

end Cert.Proof.Paths

end
-- ==== Proof.Ends.lean ====
module

public import proofs.«01_k».proof.Proof.HostReads
public import proofs.«01_k».proof.Proof.PathsRef

@[expose] public section

set_option maxRecDepth 16384

noncomputable section

/-! The two end nodes of every pair and the kernel's path sums, read at an index. -/

namespace Cert.Proof.Ends

open Idealize.ShloMosaic Idealize.ShloMosaic.TcCoe Idealize.SL.Sem
open Cert.KernelIdeal Cert.ReferenceIdeal.Read Cert.Proof.Picks Cert.Proof.HostReads Cert.Proof.Paths

variable (x0 : FVec Ideal S10000x256 .f32) (x1 : FVec Ideal S256x256 .f32) (x2 : FVec Ideal S256 .f32) (x9 : IVec S2x160000 32)
  (x10 : IVec S4096x2 32) (x11 : IVec S4096x10 32) (x12 : IVec S4096 32) (h : FVec Ideal S10240x256 .f32)

/-- The kernel's first end of a pair is the embedding row of the pair's first node. -/
theorem endU_at (p : Fin 4096) (y : Fin 256) (b : Fin 10000) (hb : x10 (ix2 p 0) = BitVec.ofNat 32 b.val) :
    endU h x10 (ix2 p y) = h (ix2 ⟨b.val, by omega⟩ y) := by
  unfold endU
  refine gather_pair_k _ _ p y ⟨b.val, by omega⟩ ?_
  pointwise [wrapCol]
  rw [hb]
  exact wrap_node b _

/-- The kernel's second end of a pair is the embedding row of the pair's second node. -/
theorem endV_at (p : Fin 4096) (y : Fin 256) (b : Fin 10000) (hb : x10 (ix2 p 1) = BitVec.ofNat 32 b.val) :
    endV h x10 (ix2 p y) = h (ix2 ⟨b.val, by omega⟩ y) := by
  unfold endV
  refine gather_pair_k _ _ p y ⟨b.val, by omega⟩ ?_
  pointwise [wrapCol]
  rw [hb]
  exact wrap_node b _

/-- The reference's first end of a pair is the embedding row of the pair's first node. -/
theorem refU_at (p : Fin 4096) (y : Fin 256) (b : Fin 10000) (hb : x10 (ix2 p 0) = BitVec.ofNat 32 b.val) :
    val_main_v36 (F := Ideal) x0 x1 x2 x9 x10 (ix2 p y) = val_main_v27 (F := Ideal) x0 x1 x2 x9 (ix2 b y) := by
  unfold val_main_v36
  refine gather_pair_r _ _ p y b ?_
  pointwise [val_main_v35, val_main_v34, val_main_v33, val_main_v32, val_main_c_5, val_main_v31, val_main_v30, val_main_c_4,
    val_main_v29, val_main_v28]
  rw [hb]
  exact wrap_node b _

/-- The reference's second end of a pair is the embedding row of the pair's second node. -/
theorem refV_at (p : Fin 4096) (y : Fin 256) (b : Fin 10000) (hb : x10 (ix2 p 1) = BitVec.ofNat 32 b.val) :
    val_main_v45 (F := Ideal) x0 x1 x2 x9 x10 (ix2 p y) = val_main_v27 (F := Ideal) x0 x1 x2 x9 (ix2 b y) := by
  unfold val_main_v45
  refine gather_pair_r _ _ p y b ?_
  pointwise [val_main_v44, val_main_v43, val_main_v42, val_main_v41, val_main_c_7, val_main_v40, val_main_v39, val_main_c_6,
    val_main_v38, val_main_v37]
  rw [hb]
  exact wrap_node b _

/-- The kernel's choice of a position's row: the path's node inside the path, the zero row 10000 past it. -/
theorem row_word {k : ℕ} (h2 : k ≤ 10) (l : Fin 10) (w : BitVec 32) :
    Scalar.select (IntOp.cmpi .slt (BitVec.ofNat 32 l.val) (BitVec.ofNat 32 k)) w 10000#32 = if l.val < k then w else 10000#32 := by
  have key : ∀ (a : Fin 11) (l : Fin 10),
      IntOp.cmpi .slt (BitVec.ofNat 32 l.val) (BitVec.ofNat 32 a.val) = if l.val < a.val then 1#1 else 0#1 := by decide
  have e := key ⟨k, by omega⟩ l
  simp only at e
  rw [e]
  split <;> rfl

/-- A row number below 10001 is not wrapped. -/
theorem wrap_row (b : ℕ) (hb : b < 10001) (d : BitVec 32) :
    Scalar.select (IntOp.cmpi .slt (BitVec.ofNat 32 b) 0#32)
        (IntOp.addi (BitVec.ofNat 32 b) d) (BitVec.ofNat 32 b) = BitVec.ofNat 32 b := by
  refine Routing.wrap_of_lt _ _ ?_
  word_omega

/-- The kernel's path sum is the sum of the embeddings of the path's nodes, when the rows past the last node are zero. -/
theorem pathSum_at (hh : ∀ (n : Fin 10240) (q : Fin 256), h (ix2 n q)
      = if hn : n.val < 10000 then val_main_v27 (F := Ideal) x0 x1 x2 x9 (ix2 ⟨n.val, hn⟩ q) else (0 : EReal))
    (p : Fin 4096) (y : Fin 256) (nd : Fin 10 → Fin 10000) (hn : ∀ l, x11 (ix2 p l) = BitVec.ofNat 32 (nd l).val)
    {k : ℕ} (h2 : k ≤ 10) (hl : x12 (ix1 p) = BitVec.ofNat 32 k) :
    pathSum h x11 x12 (ix2 p y) = walk x0 x1 x2 x9 nd k y := by
  have hi : ∀ l : Fin 10, pathCol x11 x12 (ix3 p l 0) = BitVec.ofNat 32 (if l.val < k then (nd l).val else 10000) := fun l => by
    pointwise [pathCol, pathIdx]
    simp only [hl, hn l, row_word h2 l]
    split
    · exact wrap_row _ (by omega) _
    · exact wrap_row 10000 (by omega) _
  have hg : ∀ l : Fin 10, Host.gather Cert.KernelIdeal.gather_S10240x256_S4096x10x1_S4096x10x256_2_0_n_n_0_2_1256 h (pathCol x11 x12) (ix3 p l y)
      = if l.val < k then val_main_v27 (F := Ideal) x0 x1 x2 x9 (ix2 (nd l) y) else 0 := fun l => by
    rw [gather_paths_k h _ p l y ⟨if l.val < k then (nd l).val else 10000, by split <;> omega⟩ (hi l), hh]
    by_cases hk : l.val < k
    · simp [hk]
    · simp [hk]
  pointwise [pathSum]
  simp only [hg]
  rfl

end Cert.Proof.Ends

end
-- ==== Proof.Nodes.lean ====
module
public import proofs.«01_k».proof.Proof.HostReads
@[expose] public section

set_option maxRecDepth 16384
noncomputable section

/-! The first region's array is the reference's node embeddings: on the rows below 10000 the two programs add up the same
messages and the same degrees, and dividing by a degree (at least one) is multiplying by its reciprocal; past them it is zero. -/

namespace Cert.Proof.Nodes
open Idealize.ShloMosaic Idealize.ShloMosaic.TcCoe Idealize.SL.Sem
open Cert.KernelIdeal Cert.KernelIdeal.Gen Cert.Proof.HostReads Cert.Proof.Regions Cert.Proof.Picks
open Cert.ReferenceIdeal.Read

variable (m : (ℓ : Loc nD τ sig) → Buf (Elt Ideal) ℓ) (ρ : Dev nD → PrngReg)
/-- Dividing by a nonzero real is multiplying by its reciprocal. -/
theorem div_eq_mul (x : EReal) {r : ℝ} (h : r ≠ 0) : Ideal.div x (r : EReal) = x * Ideal.div 1 (r : EReal) := by
  rw [Ideal.div_coe h, Ideal.div_coe h, one_mul]

/-- The same with the divisor the larger of a natural number and one. -/
theorem div_max_eq_mul (x : EReal) (k : ℕ) :
    Ideal.div x (max ((k : ℝ) : EReal) 1) = x * Ideal.div 1 (max ((k : ℝ) : EReal) 1) := by
  have e : max ((k : ℝ) : EReal) 1 = ((max (k : ℝ) 1 : ℝ) : EReal) := by
    rw [← EReal.coe_one]; exact (EReal.coe_strictMono.monotone.map_max).symm
  rw [e]
  exact div_eq_mul x (by positivity)

/-- The same under a further factor, as the two programs spell their terms. -/
theorem scaled (x w : EReal) (k : ℕ) :
    x * Ideal.div 1 (max ((k : ℝ) : EReal) 1) * w = Ideal.div x (max ((k : ℝ) : EReal) 1) * w := by
  rw [div_max_eq_mul x k]

/-- The kernel's summed messages are the reference's on the reference's rows. -/
theorem msgs_eq (x0 : FVec Ideal S10000x256 .f32) (x9 : IVec S2x160000 32) (n : Fin 10000) (q : Fin 256) :
    msgs x0 x9 (ix2 ⟨n.val, by omega⟩ q) = val_main_v13 (F := Ideal) x0 x9 (ix2 n q) := by
  unfold msgs val_main_v13
  refine scatter_rows _ _ _ _ n q ?_
  pointwise [val_main_v11, val_main_cst]

/-- The kernel's degrees are the reference's on the reference's rows. -/
theorem degs_eq (x9 : IVec S2x160000 32) (n : Fin 10000) :
    degs x9 (ix1 ⟨n.val, by omega⟩) = val_main_v17 (F := Ideal) x9 (ix1 n) := by
  unfold degs val_main_v17
  refine scatter_counts _ _ _ _ n ?_
  pointwise [val_main_v15, val_main_cst_2]

/-- A degree is a natural number. -/
theorem degree_nat (x9 : IVec S2x160000 32) (n : Fin 10000) :
    ∃ k : ℕ, val_main_v17 (F := Ideal) x9 (ix1 n) = ((k : ℝ) : EReal) := by
  unfold val_main_v17
  refine scatter_ones _ _ _ _ (fun i => ?_) (fun i => ?_) _
  · idx_vars i
    pointwise [val_main_v15, val_main_cst_2]
  · idx_vars i
    pointwise [val_main_v14, val_main_cst_1]

/-- The first region's formula over the host's arrays is the reference's embedding of the node, and zero past the nodes. -/
theorem embeds (x0 : FVec Ideal S10000x256 .f32) (x1 : FVec Ideal S256x256 .f32) (x2 : FVec Ideal S256 .f32) (x9 : IVec S2x160000 32) (n : Fin 10240) (q : Fin 256)  :
  nodes  (extractStridedSlice S10240x128 ![0, 0] (msgs x0 x9) slices_S10240x256_S10240x128_0_0)
   (extractStridedSlice S10240x128 ![0, 128] (msgs x0 x9) slices_S10240x256_S10240x128_0_128)
   (broadcastInDim S10240x1 ![0] bcast_S10240_S10240x1_0 (degs x9)) x1 (shapeCast S1x256 x2 shapeCasts_S256_S1x256) n q
   = if h : n.val < 10000 then val_main_v27 (F := Ideal) x0 x1 x2 x9 (ix2 ⟨n.val, h⟩ q) else 0 := by
  unfold nodes
  by_cases h : n.val < 10000
  · rw [if_pos h, dif_pos h]
    pointwise [val_main_v27, val_main_v26, val_main_v25, val_main_v24, val_main_v23, val_main_v22, val_main_v21, val_main_v20, val_main_v19, val_main_v18, val_main_cst_3, val_main_call0_v0, val_main_call0_cst]
    obtain ⟨k, hk⟩ := degree_nat x9 ⟨n.val, h⟩
    have hd : degs x9 (ix1 n) = ((k : ℝ) : EReal) := (degs_eq x9 ⟨n.val, h⟩).trans hk
    have hm : ∀ y : Fin 256, msgs x0 x9 (ix2 n y) = val_main_v13 (F := Ideal) x0 x9 (ix2 ⟨n.val, h⟩ y) :=
      fun y => msgs_eq x0 x9 ⟨n.val, h⟩ y
    refine congrArg (fun z : EReal => max (z + x2 (ix1 q)) 0) ?_
    rw [Fin.sum_univ_two_halves 128 128 rfl]
    refine congrArg₂ (· + ·) (Finset.sum_congr rfl fun y _ => ?_) (Finset.sum_congr rfl fun y _ => ?_)
    · rw [hm, hd, hk]; exact scaled _ _ k
    · rw [hm, hd, hk]; exact scaled _ _ k
  · rw [if_neg h, dif_neg h]

/-- The array the first region leaves: the reference's node embeddings, and zero past them. -/
theorem region0_eq (c : Dev nD) (n : Fin 10240) (q : Fin 256) :
    (dat0 (V1 m ρ) c).arrAt 5 cfg0.N (ix2 n q)
      = if h : n.val < 10000 then
          val_main_v27 (F := Ideal) (m ((c : Thread nD τ).loc main_arg0)) (m ((c : Thread nD τ).loc main_arg1))
            (m ((c : Thread nD τ).loc main_arg2)) (m ((c : Thread nD τ).loc main_arg9)) (ix2 ⟨n.val, h⟩ q)
        else (0 : EReal) := by
  rw [region0, v18_at, v19_at, v20_at, v21_at, show V1 m ρ c main_arg1 = m ((c : Thread nD τ).loc main_arg1) from W1_args m ρ c main_arg1 (by decide)]
  exact embeds _ _ _ _ n q

end Cert.Proof.Nodes
end
-- ==== Proof.Equation.lean ====
module

public import proofs.«01_k».proof.Proof.Ends
public import proofs.«01_k».proof.Proof.Nodes

@[expose] public section

set_option maxRecDepth 16384

noncomputable section

/-! The kernel's score of a pair is the reference's: the ends of the pair, the path's embedding, the two layers. -/

namespace Cert.Proof.Equation

open Idealize.ShloMosaic Idealize.ShloMosaic.TcCoe Idealize.SL.Sem
open Cert.KernelIdeal Cert.KernelIdeal.Gen Cert.ReferenceIdeal.Read Cert.Proof.HostReads Cert.Proof.Paths Cert.Proof.Ends Cert.Proof.Regions Cert.Proof.Nodes

/-- The literal two times a value is the value added to itself. -/
theorem twice (x : EReal) : (Ideal.ofBits .f32 0x40000000#32 : EReal) * x = x + x := by
  have h2 : (Ideal.ofBits .f32 0x40000000#32 : EReal) = ((2 : ℝ) : EReal) := by
    simp [Ideal.ofBits, Ideal.ieee, -EReal.coe_mul]
    norm_num
  rw [h2]
  induction x with
  | bot => rw [EReal.coe_mul_bot_of_pos (by norm_num)]; rfl
  | top => rw [EReal.coe_mul_top_of_pos (by norm_num)]; rfl
  | coe r => rw [← EReal.coe_mul, ← EReal.coe_add, two_mul]

variable (x0 : FVec Ideal S10000x256 .f32) (x1 : FVec Ideal S256x256 .f32) (x2 : FVec Ideal S256 .f32) (x3 : FVec Ideal S256x256 .f32)
  (x4 : FVec Ideal S256 .f32) (x5 : FVec Ideal S768x256 .f32) (x6 : FVec Ideal S256 .f32) (x7 : FVec Ideal S256x1 .f32)
  (x8 : FVec Ideal S1 .f32) (x9 : IVec S2x160000 32)
  (x10 : IVec S4096x2 32) (x11 : IVec S4096x10 32) (x12 : IVec S4096 32) (h : FVec Ideal S10240x256 .f32)

/-- The reference's path embedding: the clamped affine images of the two means, which agree, added. -/
theorem ref_path (p : Fin 4096) (q : Fin 256) (nd : Fin 10 → Fin 10000) (hn : ∀ l, x11 (ix2 p l) = BitVec.ofNat 32 (nd l).val)
    {k : ℕ} (h1 : 1 ≤ k) (h2 : k ≤ 10) (hl : x12 (ix1 p) = BitVec.ofNat 32 k) :
    val_main_v87 (F := Ideal) x0 x1 x2 x3 x4 x9 x11 x12 (ix2 p q)
      = max (∑ y : Fin 256, Ideal.div (walk x0 x1 x2 x9 nd k y) ((k : ℝ) : EReal) * x3 (ix2 y q) + x4 (ix1 q)) 0
        + max (∑ y : Fin 256, Ideal.div (walk x0 x1 x2 x9 nd k y) ((k : ℝ) : EReal) * x3 (ix2 y q) + x4 (ix1 q)) 0 := by
  pointwise [val_main_v87, val_main_v86, val_main_v85, val_main_v84, val_main_call3_v0, val_main_call3_cst, val_main_v83,
   val_main_v82, val_main_v81, val_main_v80]
  simp only [mean_forward x0 x1 x2 x9 x11 x12 p _ nd hn h2 hl, mean_backward x0 x1 x2 x9 x11 x12 p _ nd hn h1 h2 hl]

/-- What the kernel makes of a path's sum is the reference's path embedding. -/
theorem path_eq (hh : ∀ (n : Fin 10240) (q : Fin 256), h (ix2 n q)
      = if hn : n.val < 10000 then val_main_v27 (F := Ideal) x0 x1 x2 x9 (ix2 ⟨n.val, hn⟩ q) else (0 : EReal))
    (p : Fin 4096) (q : Fin 256) (nd : Fin 10 → Fin 10000) (hn : ∀ l, x11 (ix2 p l) = BitVec.ofNat 32 (nd l).val)
    {k : ℕ} (h1 : 1 ≤ k) (h2 : k ≤ 10) (hl : x12 (ix1 p) = BitVec.ofNat 32 k) :
    pathEmb (extractStridedSlice S4096x128 ![0, 0] (pathSum h x11 x12) slices_S4096x256_S4096x128_0_0)
        (extractStridedSlice S4096x128 ![0, 128] (pathSum h x11 x12) slices_S4096x256_S4096x128_0_128)
        (broadcastInDim S4096x1 ![0] bcast_S4096_S4096x1_0 (sitofp (F := Ideal) .f32 x12)) x3
        (shapeCast S1x256 x4 shapeCasts_S256_S1x256) p q
      = val_main_v87 (F := Ideal) x0 x1 x2 x3 x4 x9 x11 x12 (ix2 p q) := by
  have e0 : ∀ y : Fin 128, extractStridedSlice S4096x128 ![0, 0] (pathSum h x11 x12) slices_S4096x256_S4096x128_0_0 (ix2 p y)
      = walk x0 x1 x2 x9 nd k ⟨y.val, by omega⟩ := fun y => by
    pointwise []
    exact pathSum_at x0 x1 x2 x9 x11 x12 h hh p _ nd hn h2 hl
  have e1 : ∀ y : Fin 128, extractStridedSlice S4096x128 ![0, 128] (pathSum h x11 x12) slices_S4096x256_S4096x128_0_128 (ix2 p y)
      = walk x0 x1 x2 x9 nd k ⟨128 + y.val, by omega⟩ := fun y => by
    pointwise []
    exact pathSum_at x0 x1 x2 x9 x11 x12 h hh p _ nd hn h2 hl
  have eL : broadcastInDim S4096x1 ![0] bcast_S4096_S4096x1_0 (sitofp (F := Ideal) .f32 x12) (ix2 p 0) = ((k : ℝ) : EReal) := by
    pointwise []
    rw [hl]
    exact length_real h2
  have eB : shapeCast S1x256 x4 shapeCasts_S256_S1x256 (ix2 0 q) = x4 (ix1 q) := by pointwise []
  have hk : (k : ℝ) ≠ 0 := by
    have : k ≠ 0 := by omega
    exact_mod_cast this
  rw [ref_path x0 x1 x2 x3 x4 x9 x11 x12 p q nd hn h1 h2 hl, pathEmb, twice]
  simp only [e0, e1, eL, eB, ← div_eq_mul _ hk]
  rw [Fin.sum_univ_two_halves 128 128 (by norm_num)
    (fun y : Fin 256 => Ideal.div (walk x0 x1 x2 x9 nd k y) ((k : ℝ) : EReal) * x3 (ix2 y q))]

/-- A sum over the 768 features, cut into the five pieces the kernel adds. -/
theorem cut (f : Fin 768 → EReal) : ∑ k : Fin 768, f k
    = ∑ k : Fin 128, f ⟨k.val, by omega⟩ + ∑ k : Fin 128, f ⟨128 + k.val, by omega⟩ + ∑ k : Fin 128, f ⟨256 + k.val, by omega⟩
      + ∑ k : Fin 128, f ⟨384 + k.val, by omega⟩ + ∑ k : Fin 256, f ⟨512 + k.val, by omega⟩ := by
  rw [Fin.sum_univ_two_halves 512 256 (by norm_num) f,
    Fin.sum_univ_two_halves 384 128 (by norm_num) (fun k : Fin 512 => f ⟨k.val, by omega⟩),
    Fin.sum_univ_two_halves 256 128 (by norm_num) (fun k : Fin 384 => f ⟨k.val, by omega⟩),
    Fin.sum_univ_two_halves 128 128 (by norm_num) (fun k : Fin 256 => f ⟨k.val, by omega⟩)]

/-- The kernel's score of a pair is the reference's. -/
theorem scores_eq (hh : ∀ (n : Fin 10240) (q : Fin 256), h (ix2 n q)
      = if hn : n.val < 10000 then val_main_v27 (F := Ideal) x0 x1 x2 x9 (ix2 ⟨n.val, hn⟩ q) else (0 : EReal))
    (p : Fin 4096) (u v : Fin 10000) (hu : x10 (ix2 p 0) = BitVec.ofNat 32 u.val) (hv : x10 (ix2 p 1) = BitVec.ofNat 32 v.val)
    (nd : Fin 10 → Fin 10000) (hn : ∀ l, x11 (ix2 p l) = BitVec.ofNat 32 (nd l).val)
    {k : ℕ} (h1 : 1 ≤ k) (h2 : k ≤ 10) (hl : x12 (ix1 p) = BitVec.ofNat 32 k) :
    scores (extractStridedSlice S4096x128 ![0, 0] (pathSum h x11 x12) slices_S4096x256_S4096x128_0_0)
        (extractStridedSlice S4096x128 ![0, 128] (pathSum h x11 x12) slices_S4096x256_S4096x128_0_128)
        (extractStridedSlice S4096x128 ![0, 0] (endU h x10) slices_S4096x256_S4096x128_0_0)
        (extractStridedSlice S4096x128 ![0, 128] (endU h x10) slices_S4096x256_S4096x128_0_128)
        (extractStridedSlice S4096x128 ![0, 0] (endV h x10) slices_S4096x256_S4096x128_0_0)
        (extractStridedSlice S4096x128 ![0, 128] (endV h x10) slices_S4096x256_S4096x128_0_128)
        (broadcastInDim S4096x1 ![0] bcast_S4096_S4096x1_0 (sitofp (F := Ideal) .f32 x12)) x3
        (shapeCast S1x256 x4 shapeCasts_S256_S1x256) x5 (shapeCast S1x256 x6 shapeCasts_S256_S1x256)
        (shapeCast S1x256 x7 shapeCasts_S256x1_S1x256) (shapeCast S1x1 x8 shapeCasts_S1_S1x1) p
      = val_main_v97 (F := Ideal) x0 x1 x2 x3 x4 x5 x6 x7 x8 x9 x10 x11 x12 (ix2 p 0) := by
  have row : ∀ (b : Fin 10000) (y : Fin 256), h (ix2 ⟨b.val, by omega⟩ y) = val_main_v27 (F := Ideal) x0 x1 x2 x9 (ix2 b y) :=
    fun b y => by rw [hh]; simp only [b.isLt, dite_true]
  have eU : ∀ y : Fin 256, endU h x10 (ix2 p y) = val_main_v36 (F := Ideal) x0 x1 x2 x9 x10 (ix2 p y) := fun y => by
    rw [endU_at x10 h p y u hu, refU_at x0 x1 x2 x9 x10 p y u hu, row]
  have eV : ∀ y : Fin 256, endV h x10 (ix2 p y) = val_main_v45 (F := Ideal) x0 x1 x2 x9 x10 (ix2 p y) := fun y => by
    rw [endV_at x10 h p y v hv, refV_at x0 x1 x2 x9 x10 p y v hv, row]
  have a0 : ∀ y : Fin 128, extractStridedSlice S4096x128 ![0, 0] (endU h x10) slices_S4096x256_S4096x128_0_0 (ix2 p y)
      = val_main_v36 (F := Ideal) x0 x1 x2 x9 x10 (ix2 p ⟨y.val, by omega⟩) := fun y => by
    pointwise []
    exact eU _
  have a1 : ∀ y : Fin 128, extractStridedSlice S4096x128 ![0, 128] (endU h x10) slices_S4096x256_S4096x128_0_128 (ix2 p y)
      = val_main_v36 (F := Ideal) x0 x1 x2 x9 x10 (ix2 p ⟨128 + y.val, by omega⟩) := fun y => by
    pointwise []
    exact eU _
  have b0 : ∀ y : Fin 128, extractStridedSlice S4096x128 ![0, 0] (endV h x10) slices_S4096x256_S4096x128_0_0 (ix2 p y)
      = val_main_v45 (F := Ideal) x0 x1 x2 x9 x10 (ix2 p ⟨y.val, by omega⟩) := fun y => by
    pointwise []
    exact eV _
  have b1 : ∀ y : Fin 128, extractStridedSlice S4096x128 ![0, 128] (endV h x10) slices_S4096x256_S4096x128_0_128 (ix2 p y)
      = val_main_v45 (F := Ideal) x0 x1 x2 x9 x10 (ix2 p ⟨128 + y.val, by omega⟩) := fun y => by
    pointwise []
    exact eV _
  have c6 : ∀ q : Fin 256, shapeCast S1x256 x6 shapeCasts_S256_S1x256 (ix2 0 q) = x6 (ix1 q) := fun q => by pointwise []
  have c7 : ∀ q : Fin 256, shapeCast S1x256 x7 shapeCasts_S256x1_S1x256 (ix2 0 q) = x7 (ix2 q 0) := fun q => by pointwise []
  have c8 : shapeCast S1x1 x8 shapeCasts_S1_S1x1 (ix2 0 0) = x8 (ix1 0) := by pointwise []
  unfold scores
  simp only [a0, a1, b0, b1, c6, c7, c8, path_eq x0 x1 x2 x3 x4 x9 x11 x12 h hh p _ nd hn h1 h2 hl]
  pointwise [val_main_v97, val_main_v96, val_main_v95, val_main_v94, val_main_v93, val_main_call4_v0, val_main_call4_cst, val_main_v92,
   val_main_v91, val_main_v90, val_main_v89, val_main_v88]
  simp only [cut]
  have n1 : ∀ k : Fin 128, k.val < 256 := fun k => by omega
  have n2 : ∀ k : Fin 128, 128 + k.val < 256 := fun k => by omega
  have n3 : ∀ k : Fin 128, ¬ (256 + k.val < 256) := fun k => by omega
  have n4 : ∀ k : Fin 128, ¬ (384 + k.val < 256) := fun k => by omega
  have n5 : ∀ k : Fin 256, ¬ (512 + k.val < 256) := fun k => by omega
  have m3 : ∀ k : Fin 128, 256 + k.val - 256 = k.val := fun k => by omega
  have m4 : ∀ k : Fin 128, 384 + k.val - 256 = 128 + k.val := fun k => by omega
  have m5 : ∀ k : Fin 256, 512 + k.val - 256 = 256 + k.val := fun k => by omega
  have m6 : ∀ k : Fin 256, 256 + k.val - 256 = k.val := fun k => by omega
  have n6 : ∀ k : Fin 256, ¬ (256 + k.val < 256) := fun k => by omega
  simp only [n1, n2, n3, n4, n5, n6, m3, m4, m5, m6, dite_true, dite_false, Fin.eta]

end Cert.Proof.Equation

end
-- ==== Proof.Final.lean ====
module

public import proofs.«01_k».proof.Proof.Equation

@[expose] public section
set_option maxRecDepth 16384

noncomputable section

/-! The second region's array is the reference's result, on arguments in range. -/

namespace Cert.Proof.Final

open Idealize.ShloMosaic Idealize.ShloMosaic.TcCoe Idealize.SL.Sem
open Cert.KernelIdeal Cert.KernelIdeal.Gen Cert.ReferenceIdeal.Read Cert.Proof.HostReads Cert.Proof.Paths Cert.Proof.Ends Cert.Proof.Regions Cert.Proof.Nodes Cert.Proof.Equation

-- twelve reads of the second region's arguments are rewritten in one statement
set_option maxHeartbeats 1000000 in
/-- The score of pair `p` that the second region writes is the reference's, on arguments in range. -/
theorem region1_at (m : (ℓ : Loc nD τ sig) → Buf (Elt Ideal) ℓ) (ρ : Dev nD → PrngReg) (c : Dev nD) (p : Fin 4096)
    (hu : ∀ e : Fin 2, ∃ b : Fin 10000, m ((c.tc : Thread nD τ).loc main_arg10) (ix2 p e) = BitVec.ofNat 32 b.val)
    (hn : ∀ l : Fin 10, ∃ b : Fin 10000, m ((c.tc : Thread nD τ).loc main_arg11) (ix2 p l) = BitVec.ofNat 32 b.val)
    (hl : ∃ k : ℕ, 1 ≤ k ∧ k ≤ 10 ∧ m ((c.tc : Thread nD τ).loc main_arg12) (ix1 p) = BitVec.ofNat 32 k) :
    (dat1 (V5 m ρ) c).arrAt 13 cfg1.N (ix2 p 0)
      = val_main_v97 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (ix2 p 0) := by
  obtain ⟨u, eu⟩ := hu 0
  obtain ⟨v, ev⟩ := hu 1
  obtain ⟨k, h1, h2, ek⟩ := hl
  choose nd en using hn
  have hh := region0_eq m ρ c
  have a3 : V5 m ρ c main_arg3 = m ((c.tc : Thread nD τ).loc main_arg3) := W5_args m ρ c main_arg3 (by decide)
  have a5 : V5 m ρ c main_arg5 = m ((c.tc : Thread nD τ).loc main_arg5) := W5_args m ρ c main_arg5 (by decide)
  have e := region1 (V5 m ρ) c p
  rw [v58_at m ρ c, v59_at m ρ c, v60_at m ρ c,
    v61_at m ρ c, v62_at m ρ c, v63_at m ρ c, v57_at m ρ c, v64_at m ρ c,
    v65_at m ρ c, v66_at m ρ c, v67_at m ρ c, a3, a5] at e
  refine e.trans ?_
  clear e
  exact scores_eq (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12))
    _ hh p u v eu ev nd en h1 h2 ek

/-- The second region's array is the reference's result, on arguments in range. -/
theorem region1_eq (m : (ℓ : Loc nD τ sig) → Buf (Elt Ideal) ℓ) (ρ : Dev nD → PrngReg) (c : Dev nD)
    (hu : ∀ (p : Fin 4096) (e : Fin 2), ∃ b : Fin 10000, m ((c.tc : Thread nD τ).loc main_arg10) (ix2 p e) = BitVec.ofNat 32 b.val)
    (hn : ∀ (p : Fin 4096) (l : Fin 10), ∃ b : Fin 10000, m ((c.tc : Thread nD τ).loc main_arg11) (ix2 p l) = BitVec.ofNat 32 b.val)
    (hl : ∀ p : Fin 4096, ∃ k : ℕ, 1 ≤ k ∧ k ≤ 10 ∧ m ((c.tc : Thread nD τ).loc main_arg12) (ix1 p) = BitVec.ofNat 32 k) :
    (dat1 (V5 m ρ) c).arrAt 13 cfg1.N
      = val_main_v97 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) := by
  funext i
  idx_vars i
  obtain rfl : i1 = 0 := Subsingleton.elim _ _
  exact region1_at m ρ c i0 (hu i0) (hn i0) (hl i0)

end Cert.Proof.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Ranges
public import proofs.«01_k».proof.Proof.Final
public import Idealize.ShloMosaic.Lib.Quiescent
public import Idealize.ShloMosaic.Adequacy
public import Idealize.ShloMosaic.Init

@[expose] public section

noncomputable section

/-! The proof of the certificate's claim: the three programs' runs end with their arguments and semaphores as launched, and the
idealized kernel's result is the reference's wherever the looked-up nodes and the path lengths are in range. -/

namespace Cert.Proof

open Idealize.ShloMosaic Idealize.SL.Sem

/-- Every weakly fair execution of the reference ends with its arguments as launched and every semaphore at zero. -/
theorem reference_frame : Cert.quiescent_ReferenceIdeal :=
  fun m g _ => (θ_run _ _ _).mono
    (fun r h => ⟨fun c => (h c).2, Idealize.ShloMosaic.sem_eq_zero_of_no_sems (by decide) r.2⟩)
    (Cert.ReferenceIdeal.Value.run m g)

/-- On arguments in range the idealized kernel and the reference end with equal results and with their arguments as launched. -/
theorem equal_results : Cert.algebraic_KernelIdeal_ReferenceIdeal_pre_in_range := by
  intro m g m' g' hpre hag
  refine ⟨fun c => (Cert.KernelIdeal.Gen.dat1 (Cert.KernelIdeal.Gen.V5 m g) c).arrAt 13 Cert.KernelIdeal.cfg1.N,
    Run.value_run m g, ?_⟩
  refine (θ_run _ _ _).mono (fun r h c => ⟨(h c).1.trans ?_, (h c).2⟩) (Cert.ReferenceIdeal.Value.run m' g')
  obtain ⟨p1, p2, p3⟩ := hpre c
  obtain ⟨e0, e1, e2, e3, e4, e5, e6, e7, e8, e9, e10, e11, e12⟩ := hag c
  rw [Cert.ReferenceIdeal.Read.val_main_v97_eq m' c, e0, e1, e2, e3, e4, e5, e6, e7, e8, e9, e10, e11, e12]
  exact (Final.region1_eq m g c (Ranges.pairs_of p1) (Ranges.nodes_of p2) (Ranges.lengths_of p3)).symm

/-- The certificate's claim. -/
theorem claim : Cert.Claim :=
  ⟨Cert.Kernel.Gen.facts, Cert.KernelIdeal.Gen.facts, Cert.ReferenceIdeal.Gen.facts, Ranges.facts,
    fun m g _ => Cert.Kernel.Gen.frame m g,
    fun m g _ => Cert.KernelIdeal.Gen.frame m g,
    fun m g _ => Cert.KernelIdeal.Gen.frame m g,
    reference_frame,
    fun m g _ => reference_frame m g trivial,
    trivial, equal_results⟩

end Cert.Proof

end
